-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1548x64x64 : Shape := ⟨4, ![8, 1548, 64, 64]⟩
abbrev S144x86x4096 : Shape := ⟨3, ![144, 86, 4096]⟩
abbrev S50724864 : Shape := ⟨1, ![50724864]⟩
abbrev S86x256 : Shape := ⟨2, ![86, 256]⟩
abbrev S22016 : Shape := ⟨1, ![22016]⟩
abbrev S16 : Shape := ⟨1, ![16]⟩
abbrev S_ : Shape := ⟨0, ![]⟩
abbrev S1x86x256 : Shape := ⟨3, ![1, 86, 256]⟩
abbrev S1x16 : Shape := ⟨2, ![1, 16]⟩
abbrev S8x73728x86 : Shape := ⟨3, ![8, 73728, 86]⟩

abbrev nBuf : Table → Nat
  | .hbm => 4
  | .local .scVector .vmem => 2
  | _ => 0

abbrev bufTy : (tb : Table) → Fin (nBuf tb) → BufTy
  | .hbm, ⟨0, _⟩ => ⟨S8x1548x64x64, .f32⟩
  | .hbm, ⟨1, _⟩ => ⟨S144x86x4096, .f32⟩
  | .hbm, ⟨2, _⟩ => ⟨S50724864, .f32⟩
  | .hbm, ⟨3, _⟩ => ⟨S8x73728x86, .f32⟩
  | .local .scVector .vmem, ⟨0, _⟩ => ⟨S86x256, .f32⟩
  | .local .scVector .vmem, ⟨1, _⟩ => ⟨S22016, .f32⟩
  | _, _ => ⟨S8x1548x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c72_i32 : BitVec 32 := 72#32
  let v3 : BitVec 32 := Scalar.addi c0_i32_0 c72_i32
  let c1_i32 : BitVec 32 := 1#32
  ⟨c0_i32_0, v3, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c72_i32_2 : BitVec 32 := 72#32
  let v4 : BitVec 32 := Scalar.muli v1 c72_i32_2
  let c0_i32_0 : BitVec 32 := 0#32
  let c1_i32 : BitVec 32 := 1#32
  let arg6 : BitVec 32 := Scf.iv c0_i32_0 c1_i32 k0_t1
  let v5 : BitVec 32 := Scalar.addi v4 arg6
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c16_i32 : BitVec 32 := 16#32
  let c0_i32_5 : BitVec 32 := 0#32
  let v12 : BitVec 1 := Scalar.cmpi .sgt c16_i32 c0_i32_5
  let v13 : BitVec 32 := Scalar.extui v12
  let c0_i32_6 : BitVec 32 := 0#32
  let v14 : BitVec 1 := Scalar.cmpi .slt c16_i32 c0_i32_6
  let v15 : BitVec 32 := Scalar.extui v14
  let v16 : BitVec 32 := Scalar.subi v13 v15
  let v17 : BitVec 1 := Scalar.cmpi .ne v11 v16
  let v18 : BitVec 32 := Scalar.remsi v5 c16_i32
  let c0_i32_7 : BitVec 32 := 0#32
  let v19 : BitVec 1 := Scalar.cmpi .ne v18 c0_i32_7
  let v20 : BitVec 1 := Scalar.andi v17 v19
  let v6 : BitVec 32 := Scalar.divsi v5 c16_i32
  let c1_i32_8 : BitVec 32 := 1#32
  let v21 : BitVec 32 := Scalar.subi v6 c1_i32_8
  let v22 : BitVec 32 := Scalar.select v20 v21 v6
  let c0_i32_50_r0 : BitVec 32 := 0#32
  let c16_i32_9 : BitVec 32 := 16#32
  let v23 : BitVec 32 := Scalar.muli v22 c16_i32_9
  let v24 : BitVec 32 := Scalar.subi v5 v23
  let c256_i32 : BitVec 32 := 256#32
  let v72 : BitVec 32 := Scalar.muli v24 c256_i32
  ![v22.toNat, 0, v72.toNat]
@[reducible] def k0_t2_loop : Scf.Loop 32 :=
  let c0_i32_41 : BitVec 32 := 0#32
  let c16_i32_42 : BitVec 32 := 16#32
  let v73 : BitVec 32 := Scalar.addi c0_i32_41 c16_i32_42
  let c1_i32_43 : BitVec 32 := 1#32
  ⟨c0_i32_41, v73, c1_i32_43⟩
def k0_off2 (k0_t2 : Fin k0_t2_loop.trips) : Fin 2 → Nat :=
  let c0_i32_68 : BitVec 32 := 0#32
  let v117 : Index := Scalar.indexCast c0_i32_68
  let c0_i32_41 : BitVec 32 := 0#32
  let c1_i32_43 : BitVec 32 := 1#32
  let arg7 : BitVec 32 := Scf.iv c0_i32_41 c1_i32_43 k0_t2
  let c16_i32_67 : BitVec 32 := 16#32
  let v116 : BitVec 32 := Scalar.muli arg7 c16_i32_67
  let v118 : Index := Scalar.indexCast v116
  ![0, v118.toNat]

def k0_chk1 (v81 : IVec S16 32) : Prop :=
  (∀ a x, ((![v81] : Fin 1 → IVec S16 32) a x).toNat < S22016.size a)
theorem k0_idx1_inb : ∀ (v81 : IVec S16 32) (k0_hw1 : k0_chk1 v81), ∀ a x, ((![v81] : Fin 1 → IVec S16 32) a x).toNat < S22016.size a := fun v81 k0_hw1 => k0_hw1
def k0_off3 (k0_t2 : Fin k0_t2_loop.trips) : Fin 2 → Nat :=
  let c1_i32_76 : BitVec 32 := 1#32
  let v135 : Index := Scalar.indexCast c1_i32_76
  let c0_i32_41 : BitVec 32 := 0#32
  let c1_i32_43 : BitVec 32 := 1#32
  let arg7 : BitVec 32 := Scf.iv c0_i32_41 c1_i32_43 k0_t2
  let c16_i32_75 : BitVec 32 := 16#32
  let v134 : BitVec 32 := Scalar.muli arg7 c16_i32_75
  let v136 : Index := Scalar.indexCast v134
  ![1, v136.toNat]

def k0_chk2 (v154 : IVec S16 32) : Prop :=
  (∀ a x, ((![v154] : Fin 1 → IVec S16 32) a x).toNat < S22016.size a)
theorem k0_idx2_inb : ∀ (v154 : IVec S16 32) (k0_hw2 : k0_chk2 v154), ∀ a x, ((![v154] : Fin 1 → IVec S16 32) a x).toNat < S22016.size a := fun v154 k0_hw2 => k0_hw2
def k0_off4 (k0_t2 : Fin k0_t2_loop.trips) : Fin 2 → Nat :=
  let c2_i32_85 : BitVec 32 := 2#32
  let v156 : Index := Scalar.indexCast c2_i32_85
  let c0_i32_41 : BitVec 32 := 0#32
  let c1_i32_43 : BitVec 32 := 1#32
  let arg7 : BitVec 32 := Scf.iv c0_i32_41 c1_i32_43 k0_t2
  let c16_i32_84 : BitVec 32 := 16#32
  let v155 : BitVec 32 := Scalar.muli arg7 c16_i32_84
  let v157 : Index := Scalar.indexCast v155
  ![2, v157.toNat]

def k0_chk3 (v160 : IVec S16 32) : Prop :=
  (∀ a x, ((![v160] : Fin 1 → IVec S16 32) a x).toNat < S22016.size a)
theorem k0_idx3_inb : ∀ (v160 : IVec S16 32) (k0_hw3 : k0_chk3 v160), ∀ a x, ((![v160] : Fin 1 → IVec S16 32) a x).toNat < S22016.size a := fun v160 k0_hw3 => k0_hw3
def k0_off5 (k0_t2 : Fin k0_t2_loop.trips) : Fin 2 → Nat :=
  let c3_i32_88 : BitVec 32 := 3#32
  let v165 : Index := Scalar.indexCast c3_i32_88
  let c0_i32_41 : BitVec 32 := 0#32
  let c1_i32_43 : BitVec 32 := 1#32
  let arg7 : BitVec 32 := Scf.iv c0_i32_41 c1_i32_43 k0_t2
  let c16_i32_87 : BitVec 32 := 16#32
  let v164 : BitVec 32 := Scalar.muli arg7 c16_i32_87
  let v166 : Index := Scalar.indexCast v164
  ![3, v166.toNat]

def k0_chk4 (v169 : IVec S16 32) : Prop :=
  (∀ a x, ((![v169] : Fin 1 → IVec S16 32) a x).toNat < S22016.size a)
theorem k0_idx4_inb : ∀ (v169 : IVec S16 32) (k0_hw4 : k0_chk4 v169), ∀ a x, ((![v169] : Fin 1 → IVec S16 32) a x).toNat < S22016.size a := fun v169 k0_hw4 => k0_hw4
def k0_off6 (k0_t2 : Fin k0_t2_loop.trips) : Fin 2 → Nat :=
  let c4_i32_91 : BitVec 32 := 4#32
  let v174 : Index := Scalar.indexCast c4_i32_91
  let c0_i32_41 : BitVec 32 := 0#32
  let c1_i32_43 : BitVec 32 := 1#32
  let arg7 : BitVec 32 := Scf.iv c0_i32_41 c1_i32_43 k0_t2
  let c16_i32_90 : BitVec 32 := 16#32
  let v173 : BitVec 32 := Scalar.muli arg7 c16_i32_90
  let v175 : Index := Scalar.indexCast v173
  ![4, v175.toNat]

def k0_chk5 (v178 : IVec S16 32) : Prop :=
  (∀ a x, ((![v178] : Fin 1 → IVec S16 32) a x).toNat < S22016.size a)
theorem k0_idx5_inb : ∀ (v178 : IVec S16 32) (k0_hw5 : k0_chk5 v178), ∀ a x, ((![v178] : Fin 1 → IVec S16 32) a x).toNat < S22016.size a := fun v178 k0_hw5 => k0_hw5
@[reducible] def k0_t3_loop : Scf.Loop 32 :=
  let c0_i32_46 : BitVec 32 := 0#32
  let c1296_i32 : BitVec 32 := 1296#32
  let v74 : BitVec 32 := Scalar.addi c0_i32_46 c1296_i32
  let c1_i32_47 : BitVec 32 := 1#32
  ⟨c0_i32_46, v74, c1_i32_47⟩
def k0_off7 (k0_t3 : Fin k0_t3_loop.trips) : Fin 2 → Nat :=
  let c5_i32 : BitVec 32 := 5#32
  let c0_i32_46 : BitVec 32 := 0#32
  let c1_i32_47 : BitVec 32 := 1#32
  let arg7 : BitVec 32 := Scf.iv c0_i32_46 c1_i32_47 k0_t3
  let c0_i32_51 : BitVec 32 := 0#32
  let v78 : BitVec 1 := Scalar.cmpi .sgt arg7 c0_i32_51
  let v79 : BitVec 32 := Scalar.extui v78
  let c0_i32_52 : BitVec 32 := 0#32
  let v80 : BitVec 1 := Scalar.cmpi .slt arg7 c0_i32_52
  let v81 : BitVec 32 := Scalar.extui v80
  let v82 : BitVec 32 := Scalar.subi v79 v81
  let c16_i32_50 : BitVec 32 := 16#32
  let c0_i32_53 : BitVec 32 := 0#32
  let v83 : BitVec 1 := Scalar.cmpi .sgt c16_i32_50 c0_i32_53
  let v84 : BitVec 32 := Scalar.extui v83
  let c0_i32_54 : BitVec 32 := 0#32
  let v85 : BitVec 1 := Scalar.cmpi .slt c16_i32_50 c0_i32_54
  let v86 : BitVec 32 := Scalar.extui v85
  let v87 : BitVec 32 := Scalar.subi v84 v86
  let v88 : BitVec 1 := Scalar.cmpi .ne v82 v87
  let v89 : BitVec 32 := Scalar.remsi arg7 c16_i32_50
  let c0_i32_55 : BitVec 32 := 0#32
  let v90 : BitVec 1 := Scalar.cmpi .ne v89 c0_i32_55
  let v91 : BitVec 1 := Scalar.andi v88 v90
  let v77 : BitVec 32 := Scalar.divsi arg7 c16_i32_50
  let c1_i32_56 : BitVec 32 := 1#32
  let v92 : BitVec 32 := Scalar.subi v77 c1_i32_56
  let v93 : BitVec 32 := Scalar.select v91 v92 v77
  let v94 : BitVec 32 := Scalar.addi c5_i32 v93
  let v115 : Index := Scalar.indexCast v94
  let c0_i32_58 : BitVec 32 := 0#32
  let v96 : BitVec 1 := Scalar.cmpi .sgt arg7 c0_i32_58
  let v97 : BitVec 32 := Scalar.extui v96
  let c0_i32_59 : BitVec 32 := 0#32
  let v98 : BitVec 1 := Scalar.cmpi .slt arg7 c0_i32_59
  let v99 : BitVec 32 := Scalar.extui v98
  let v100 : BitVec 32 := Scalar.subi v97 v99
  let c16_i32_57 : BitVec 32 := 16#32
  let c0_i32_60 : BitVec 32 := 0#32
  let v101 : BitVec 1 := Scalar.cmpi .sgt c16_i32_57 c0_i32_60
  let v102 : BitVec 32 := Scalar.extui v101
  let c0_i32_61 : BitVec 32 := 0#32
  let v103 : BitVec 1 := Scalar.cmpi .slt c16_i32_57 c0_i32_61
  let v104 : BitVec 32 := Scalar.extui v103
  let v105 : BitVec 32 := Scalar.subi v102 v104
  let v106 : BitVec 1 := Scalar.cmpi .ne v100 v105
  let v107 : BitVec 32 := Scalar.remsi arg7 c16_i32_57
  let c0_i32_62 : BitVec 32 := 0#32
  let v108 : BitVec 1 := Scalar.cmpi .ne v107 c0_i32_62
  let v109 : BitVec 1 := Scalar.andi v106 v108
  let v95 : BitVec 32 := Scalar.divsi arg7 c16_i32_57
  let c1_i32_63 : BitVec 32 := 1#32
  let v110 : BitVec 32 := Scalar.subi v95 c1_i32_63
  let v111 : BitVec 32 := Scalar.select v109 v110 v95
  let c16_i32_64 : BitVec 32 := 16#32
  let v112 : BitVec 32 := Scalar.muli v111 c16_i32_64
  let v113 : BitVec 32 := Scalar.subi arg7 v112
  let c16_i32_65 : BitVec 32 := 16#32
  let v114 : BitVec 32 := Scalar.muli v113 c16_i32_65
  let v116 : Index := Scalar.indexCast v114
  ![v115.toNat, v116.toNat]

def k0_chk6 (v124 : IVec S16 32) : Prop :=
  (∀ a x, ((![v124] : Fin 1 → IVec S16 32) a x).toNat < S22016.size a)
theorem k0_idx6_inb : ∀ (v124 : IVec S16 32) (k0_hw6 : k0_chk6 v124), ∀ a x, ((![v124] : Fin 1 → IVec S16 32) a x).toNat < S22016.size a := fun v124 k0_hw6 => k0_hw6
def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c72_i32_2 : BitVec 32 := 72#32
  let v4 : BitVec 32 := Scalar.muli v1 c72_i32_2
  let c0_i32_0 : BitVec 32 := 0#32
  let c1_i32 : BitVec 32 := 1#32
  let arg6 : BitVec 32 := Scf.iv c0_i32_0 c1_i32 k0_t1
  let v5 : BitVec 32 := Scalar.addi v4 arg6
  let c256_i32_49 : BitVec 32 := 256#32
  let v75 : BitVec 32 := Scalar.muli v5 c256_i32_49
  let c86_i32 : BitVec 32 := 86#32
  let v76 : BitVec 32 := Scalar.muli v75 c86_i32
  ![v76.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1548x64x64 : Shape := ⟨4, ![8, 1548, 64, 64]⟩
abbrev S18x3 : Shape := ⟨2, ![18, 3]⟩
abbrev S8x18x86x64x64 : Shape := ⟨5, ![8, 18, 86, 64, 64]⟩
abbrev S8x18x64x64x86 : Shape := ⟨5, ![8, 18, 64, 64, 86]⟩
abbrev S8x18x64x64x1 : Shape := ⟨5, ![8, 18, 64, 64, 1]⟩
abbrev S8x18x64x64 : Shape := ⟨4, ![8, 18, 64, 64]⟩
abbrev S_ : Shape := ⟨0, ![]⟩
abbrev S8x18x64x64x80 : Shape := ⟨5, ![8, 18, 64, 64, 80]⟩
abbrev S64 : Shape := ⟨1, ![64]⟩
abbrev S1x64 : Shape := ⟨2, ![1, 64]⟩
abbrev S1x1x1x64 : Shape := ⟨4, ![1, 1, 1, 64]⟩
abbrev S64x1x1x64 : Shape := ⟨4, ![64, 1, 1, 64]⟩
abbrev S64x64 : Shape := ⟨2, ![64, 64]⟩
abbrev S1x1x64x64 : Shape := ⟨4, ![1, 1, 64, 64]⟩
abbrev S18x1 : Shape := ⟨2, ![18, 1]⟩
abbrev S18 : Shape := ⟨1, ![18]⟩
abbrev S1x18x1x1 : Shape := ⟨4, ![1, 18, 1, 1]⟩
abbrev S8x18x64x64x5 : Shape := ⟨5, ![8, 18, 64, 64, 5]⟩
abbrev S8x18x64x64x4 : Shape := ⟨5, ![8, 18, 64, 64, 4]⟩
abbrev S8x73728x5 : Shape := ⟨3, ![8, 73728, 5]⟩
abbrev S8x73728x1 : Shape := ⟨3, ![8, 73728, 1]⟩
abbrev S8x73728x80 : Shape := ⟨3, ![8, 73728, 80]⟩
abbrev S8x73728x86 : Shape := ⟨3, ![8, 73728, 86]⟩

abbrev nBuf : Space → Nat
  | .hbm => 111
  | .vmem => 0
  | .smem => 0
  | _ => 0

abbrev bufTy : (tb : Table) → Fin (tcTables nBuf tb) → BufTy
  | .hbm, ⟨0, _⟩ => ⟨S8x1548x64x64, .f32⟩
  | .hbm, ⟨1, _⟩ => ⟨S18x3, .f32⟩
  | .hbm, ⟨2, _⟩ => ⟨S8x18x86x64x64, .f32⟩
  | .hbm, ⟨3, _⟩ => ⟨S8x18x64x64x86, .f32⟩
  | .hbm, ⟨4, _⟩ => ⟨S8x18x64x64x1, .f32⟩
  | .hbm, ⟨5, _⟩ => ⟨S8x18x64x64, .f32⟩
  | .hbm, ⟨6, _⟩ => ⟨S8x18x64x64, .f32⟩
  | .hbm, ⟨7, _⟩ => ⟨S8x18x64x64, .f32⟩
  | .hbm, ⟨8, _⟩ => ⟨S_, .f32⟩
  | .hbm, ⟨9, _⟩ => ⟨S8x18x64x64, .f32⟩
  | .hbm, ⟨10, _⟩ => ⟨S8x18x64x64, .f32⟩
  | .hbm, ⟨11, _⟩ => ⟨S_, .f32⟩
  | .hbm, ⟨12, _⟩ => ⟨S8x18x64x64, .f32⟩
  | .hbm, ⟨13, _⟩ => ⟨S8x18x64x64, .f32⟩
  | .hbm, ⟨14, _⟩ => ⟨S_, .f32⟩
  | .hbm, ⟨15, _⟩ => ⟨S8x18x64x64, .f32⟩
  | .hbm, ⟨16, _⟩ => ⟨S8x18x64x64, .f32⟩
  | .hbm, ⟨17, _⟩ => ⟨S_, .f32⟩
  | .hbm, ⟨18, _⟩ => ⟨S8x18x64x64, .f32⟩
  | .hbm, ⟨19, _⟩ => ⟨S8x18x64x64, .f32⟩
  | .hbm, ⟨20, _⟩ => ⟨S8x18x64x64x1, .f32⟩
  | .hbm, ⟨21, _⟩ => ⟨S8x18x64x64, .f32⟩
  | .hbm, ⟨22, _⟩ => ⟨S8x18x64x64, .f32⟩
  | .hbm, ⟨23, _⟩ => ⟨S8x18x64x64, .f32⟩
  | .hbm, ⟨24, _⟩ => ⟨S_, .f32⟩
  | .hbm, ⟨25, _⟩ => ⟨S8x18x64x64, .f32⟩
  | .hbm, ⟨26, _⟩ => ⟨S8x18x64x64, .f32⟩
  | .hbm, ⟨27, _⟩ => ⟨S_, .f32⟩
  | .hbm, ⟨28, _⟩ => ⟨S8x18x64x64, .f32⟩
  | .hbm, ⟨29, _⟩ => ⟨S8x18x64x64, .f32⟩
  | .hbm, ⟨30, _⟩ => ⟨S_, .f32⟩
  | .hbm, ⟨31, _⟩ => ⟨S8x18x64x64, .f32⟩
  | .hbm, ⟨32, _⟩ => ⟨S8x18x64x64, .f32⟩
  | .hbm, ⟨33, _⟩ => ⟨S_, .f32⟩
  | .hbm, ⟨34, _⟩ => ⟨S8x18x64x64, .f32⟩
  | .hbm, ⟨35, _⟩ => ⟨S8x18x64x64, .f32⟩
  | .hbm, ⟨36, _⟩ => ⟨S8x18x64x64x1, .f32⟩
  | .hbm, ⟨37, _⟩ => ⟨S8x18x64x64, .f32⟩
  | .hbm, ⟨38, _⟩ => ⟨S8x18x64x64x1, .f32⟩
  | .hbm, ⟨39, _⟩ => ⟨S8x18x64x64, .f32⟩
  | .hbm, ⟨40, _⟩ => ⟨S8x18x64x64x1, .f32⟩
  | .hbm, ⟨41, _⟩ => ⟨S8x18x64x64, .f32⟩
  | .hbm, ⟨42, _⟩ => ⟨S8x18x64x64x1, .f32⟩
  | .hbm, ⟨43, _⟩ => ⟨S8x18x64x64, .f32⟩
  | .hbm, ⟨44, _⟩ => ⟨S8x18x64x64, .f32⟩
  | .hbm, ⟨45, _⟩ => ⟨S8x18x64x64, .f32⟩
  | .hbm, ⟨46, _⟩ => ⟨S_, .f32⟩
  | .hbm, ⟨47, _⟩ => ⟨S8x18x64x64, .f32⟩
  | .hbm, ⟨48, _⟩ => ⟨S8x18x64x64, .f32⟩
  | .hbm, ⟨49, _⟩ => ⟨S_, .f32⟩
  | .hbm, ⟨50, _⟩ => ⟨S8x18x64x64, .f32⟩
  | .hbm, ⟨51, _⟩ => ⟨S8x18x64x64, .f32⟩
  | .hbm, ⟨52, _⟩ => ⟨S8x18x64x64x80, .f32⟩
  | .hbm, ⟨53, _⟩ => ⟨S8x18x64x64x80, .f32⟩
  | .hbm, ⟨54, _⟩ => ⟨S8x18x64x64x80, .f32⟩
  | .hbm, ⟨55, _⟩ => ⟨S_, .f32⟩
  | .hbm, ⟨56, _⟩ => ⟨S8x18x64x64x80, .f32⟩
  | .hbm, ⟨57, _⟩ => ⟨S8x18x64x64x80, .f32⟩
  | .hbm, ⟨58, _⟩ => ⟨S_, .f32⟩
  | .hbm, ⟨59, _⟩ => ⟨S8x18x64x64x80, .f32⟩
  | .hbm, ⟨60, _⟩ => ⟨S8x18x64x64x80, .f32⟩
  | .hbm, ⟨61, _⟩ => ⟨S64, .f32⟩
  | .hbm, ⟨62, _⟩ => ⟨S1x64, .f32⟩
  | .hbm, ⟨63, _⟩ => ⟨S1x1x1x64, .f32⟩
  | .hbm, ⟨64, _⟩ => ⟨S64x1x1x64, .f32⟩
  | .hbm, ⟨65, _⟩ => ⟨S64x64, .f32⟩
  | .hbm, ⟨66, _⟩ => ⟨S1x1x64x64, .f32⟩
  | .hbm, ⟨67, _⟩ => ⟨S64, .f32⟩
  | .hbm, ⟨68, _⟩ => ⟨S1x64, .f32⟩
  | .hbm, ⟨69, _⟩ => ⟨S1x1x1x64, .f32⟩
  | .hbm, ⟨70, _⟩ => ⟨S64x1x1x64, .f32⟩
  | .hbm, ⟨71, _⟩ => ⟨S64x64, .f32⟩
  | .hbm, ⟨72, _⟩ => ⟨S64x64, .f32⟩
  | .hbm, ⟨73, _⟩ => ⟨S1x1x64x64, .f32⟩
  | .hbm, ⟨74, _⟩ => ⟨S18x1, .f32⟩
  | .hbm, ⟨75, _⟩ => ⟨S18, .f32⟩
  | .hbm, ⟨76, _⟩ => ⟨S1x18x1x1, .f32⟩
  | .hbm, ⟨77, _⟩ => ⟨S18x1, .f32⟩
  | .hbm, ⟨78, _⟩ => ⟨S18, .f32⟩
  | .hbm, ⟨79, _⟩ => ⟨S1x18x1x1, .f32⟩
  | .hbm, ⟨80, _⟩ => ⟨S18x1, .f32⟩
  | .hbm, ⟨81, _⟩ => ⟨S18, .f32⟩
  | .hbm, ⟨82, _⟩ => ⟨S1x18x1x1, .f32⟩
  | .hbm, ⟨83, _⟩ => ⟨S8x18x64x64, .f32⟩
  | .hbm, ⟨84, _⟩ => ⟨S8x18x64x64, .f32⟩
  | .hbm, ⟨85, _⟩ => ⟨S8x18x64x64, .f32⟩
  | .hbm, ⟨86, _⟩ => ⟨S8x18x64x64, .f32⟩
  | .hbm, ⟨87, _⟩ => ⟨S8x18x64x64, .f32⟩
  | .hbm, ⟨88, _⟩ => ⟨S8x18x64x64, .f32⟩
  | .hbm, ⟨89, _⟩ => ⟨S8x18x64x64, .f32⟩
  | .hbm, ⟨90, _⟩ => ⟨S8x18x64x64, .f32⟩
  | .hbm, ⟨91, _⟩ => ⟨S8x18x64x64, .f32⟩
  | .hbm, ⟨92, _⟩ => ⟨S8x18x64x64, .f32⟩
  | .hbm, ⟨93, _⟩ => ⟨S8x18x64x64, .f32⟩
  | .hbm, ⟨94, _⟩ => ⟨S8x18x64x64, .f32⟩
  | .hbm, ⟨95, _⟩ => ⟨S8x18x64x64x1, .f32⟩
  | .hbm, ⟨96, _⟩ => ⟨S8x18x64x64x1, .f32⟩
  | .hbm, ⟨97, _⟩ => ⟨S8x18x64x64x1, .f32⟩
  | .hbm, ⟨98, _⟩ => ⟨S8x18x64x64x1, .f32⟩
  | .hbm, ⟨99, _⟩ => ⟨S8x18x64x64x1, .f32⟩
  | .hbm, ⟨100, _⟩ => ⟨S8x18x64x64x5, .f32⟩
  | .hbm, ⟨101, _⟩ => ⟨S8x18x64x64x4, .f32⟩
  | .hbm, ⟨102, _⟩ => ⟨S_, .f32⟩
  | .hbm, ⟨103, _⟩ => ⟨S8x18x64x64x4, .f32⟩
  | .hbm, ⟨104, _⟩ => ⟨S8x18x64x64x4, .f32⟩
  | .hbm, ⟨105, _⟩ => ⟨S8x18x64x64x1, .f32⟩
  | .hbm, ⟨106, _⟩ => ⟨S8x18x64x64x5, .f32⟩
  | .hbm, ⟨107, _⟩ => ⟨S8x73728x5, .f32⟩
  | .hbm, ⟨108, _⟩ => ⟨S8x73728x1, .f32⟩
  | .hbm, ⟨109, _⟩ => ⟨S8x73728x80, .f32⟩
  | .hbm, ⟨110, _⟩ => ⟨S8x73728x86, .f32⟩
  | _, _ => ⟨S8x1548x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_cst_9 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_10 : Ref sig .tc := ⟨.hbm, 55, rfl⟩
abbrev main_v43 : Ref sig .tc := ⟨.hbm, 56, rfl⟩
abbrev main_v44 : Ref sig .tc := ⟨.hbm, 57, rfl⟩
abbrev main_cst_11 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_12 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩

abbrev nD : Nat := 1
abbrev τ : Topo := Topo.v7x

variable {F : FTy → Type} [FloatOps F]
-- ==== Proof.Value.lean ====
/-
  What the kernel computes, as mathematics over any float instance: one output element from the one input
  element it is made of (`cellVal`), the whole flat result from the input (`flatOut`), and the contents the
  tile's output scratch is to hold for one chunk (`chunkOut`). Beside them the two facts about an indexed store
  the proof needs: what it leaves at the elements its lanes name and at the others (`storeIdx_or`), and how
  each of the kernel's six stores takes the scratch one step further (`boxDone_step`, `sigDone_step`).
-/
module

public import Idealize.ShloMosaic.PureOps
public import Idealize.ShloMosaic.Lib.ValueIdxCore

@[expose] public section

noncomputable section

namespace Cert.Proof.Value

open Idealize.ShloMosaic
open Idealize.ShloMosaic.ValueIdx

variable {F : FTy → Type} [FloatOps F]

/-! ## One element -/

/-- The logistic function as the kernel spells it: `1 / (1 + exp (0 - x))`. -/
def sigm (x : F .f32) : F .f32 :=
  FloatOps.divf (FloatOps.ofBits .f32 0x3F800000#32)
    (FloatOps.addf (FloatOps.ofBits .f32 0x3F800000#32) (FloatOps.exp (FloatOps.subf (FloatOps.ofBits .f32 0x00000000#32) x)))

/-- A box centre: the logistic value scaled by 1.05, less 0.025, plus its grid coordinate `n`, times the stride 8. -/
def centre (n x : F .f32) : F .f32 :=
  FloatOps.mulf (FloatOps.addf (FloatOps.subf (FloatOps.mulf (sigm x) (FloatOps.ofBits .f32 0x3F866666#32))
    (FloatOps.ofBits .f32 0x3CCCCCCD#32)) n) (FloatOps.ofBits .f32 0x41000000#32)

/-- The width of the anchor box of anchor `a`: 12, 19 or 40, six angles each. -/
def widthOf (a : ℕ) : F .f32 :=
  if a / 6 = 0 then FloatOps.ofBits .f32 0x41400000#32 else if a / 6 = 1 then FloatOps.ofBits .f32 0x41980000#32 else FloatOps.ofBits .f32 0x42200000#32

/-- The height of the anchor box of anchor `a`: 16, 36 or 28. -/
def heightOf (a : ℕ) : F .f32 :=
  if a / 6 = 0 then FloatOps.ofBits .f32 0x41800000#32 else if a / 6 = 1 then FloatOps.ofBits .f32 0x42100000#32 else FloatOps.ofBits .f32 0x41E00000#32

/-- The angle of anchor `a`. -/
def angleOf (a : ℕ) : F .f32 :=
  if a % 6 = 0 then FloatOps.ofBits .f32 0xBF860AA6#32 else if a % 6 = 1 then FloatOps.ofBits .f32 0xBF060AA6#32
  else if a % 6 = 2 then FloatOps.ofBits .f32 0x00000000#32 else if a % 6 = 3 then FloatOps.ofBits .f32 0x3F060AA6#32
  else if a % 6 = 4 then FloatOps.ofBits .f32 0x3F860AA6#32 else FloatOps.ofBits .f32 0x3FC90FF9#32

/-- The output element of anchor `a`, grid cell `pos` (row-major in the 64 × 64 grid) and channel `c`, from the input element `x`
    (the column is converted on the vector unit, the row on the scalar unit). -/
def cellVal (a pos c : ℕ) (x : F .f32) : F .f32 :=
  if c = 0 then centre (FloatOps.sitofp .f32 (BitVec.ofNat 32 (pos % 64))) x
  else if c = 1 then centre (Scalar.sitofp .f32 (BitVec.ofNat 32 (pos / 64))) x
  else if c = 2 then FloatOps.mulf (FloatOps.exp x) (widthOf a)
  else if c = 3 then FloatOps.mulf (FloatOps.exp x) (heightOf a)
  else if c = 4 then FloatOps.addf x (angleOf a)
  else sigm x

/-- From the fifth channel on the element is the logistic value. -/
theorem cellVal_ge (a pos c : ℕ) (x : F .f32) (h : 5 ≤ c) : cellVal a pos c x = sigm x := by
  unfold cellVal
  rw [if_neg (by omega), if_neg (by omega), if_neg (by omega), if_neg (by omega), if_neg (by omega)]

/-! ## The whole result, and one chunk of it -/

/-- The flat result: element `j` is channel `j % 86` of cell `(j / 86) % 4096` of slab `j / 352256` (a slab is one anchor
    of one image; slab `s` has anchor `s % 18`), from the input at the same slab, channel and cell. -/
def flatOut (x : (⟨3, ![144, 86, 4096]⟩ : Shape).Idx → F .f32) (j : (⟨1, ![50724864]⟩ : Shape).Idx) : F .f32 :=
  cellVal ((j 0).val / 352256 % 18) ((j 0).val / 86 % 4096) ((j 0).val % 86)
    (x (ix3 ⟨(j 0).val / 352256, by have h : (j 0).val < 50724864 := (j 0).isLt; omega⟩ ⟨(j 0).val % 86, by omega⟩ ⟨(j 0).val / 86 % 4096, by omega⟩))

/-- The output scratch for a chunk of anchor `a` and cells `pc * 256 …`, from the input scratch `b` (86 channels of 256
    cells): element `q` is channel `q % 86` of cell `q / 86`. -/
def chunkOut (a pc : ℕ) (b : (⟨2, ![86, 256]⟩ : Shape).Idx → F .f32) (q : (⟨1, ![22016]⟩ : Shape).Idx) : F .f32 :=
  cellVal a (pc * 256 + (q 0).val / 86) ((q 0).val % 86)
    (b (ix2 ⟨(q 0).val % 86, by omega⟩ ⟨(q 0).val / 86, by have h : (q 0).val < 22016 := (q 0).isLt; omega⟩))

/-- At an index spelt by its cell `p` and channel `c`. -/
theorem chunkOut_at (a pc : ℕ) (b : (⟨2, ![86, 256]⟩ : Shape).Idx → F .f32) (q : (⟨1, ![22016]⟩ : Shape).Idx) (p : Fin 256) (c : Fin 86)
    (h : (q 0).val = p.val * 86 + c.val) : chunkOut a pc b q = cellVal a (pc * 256 + p.val) c.val (b (ix2 c p)) := by
  have h1 : (q 0).val % 86 = c.val := by have := c.isLt; omega
  have h2 : (q 0).val / 86 = p.val := by have := c.isLt; omega
  unfold chunkOut
  congr 1
  · rw [h2]
  · congr 2 <;> exact Fin.ext (by assumption)

/-- Chunk `t`'s scratch is the flat result's elements `t * 22016 …`, when the input scratch holds the chunk's cells. -/
theorem chunkOut_flat (x : (⟨3, ![144, 86, 4096]⟩ : Shape).Idx → F .f32) (b : (⟨2, ![86, 256]⟩ : Shape).Idx → F .f32) (t : Fin 2304)
    (hb : ∀ (c : Fin 86) (p : Fin 256), b (ix2 c p)
      = x (ix3 ⟨t.val / 16, by omega⟩ c ⟨t.val % 16 * 256 + p.val, by omega⟩))
    (q : (⟨1, ![22016]⟩ : Shape).Idx) (j : (⟨1, ![50724864]⟩ : Shape).Idx) (hj : (j 0).val = t.val * 22016 + (q 0).val) :
    chunkOut (t.val / 16 % 18) (t.val % 16) b q = flatOut x j := by
  have hq : (q 0).val < 22016 := (q 0).isLt
  have e1 : (j 0).val / 352256 = t.val / 16 := by omega
  have e2 : (j 0).val / 86 % 4096 = t.val % 16 * 256 + (q 0).val / 86 := by omega
  have e3 : (j 0).val % 86 = (q 0).val % 86 := by omega
  unfold chunkOut flatOut
  rw [hb]
  congr 1
  · rw [e1]
  · exact e2.symm
  · exact e3.symm
  · congr 2
    · exact Fin.ext e1.symm
    · exact Fin.ext e3.symm
    · exact Fin.ext e2.symm

/-! ## The indexed store -/

/-- Rewriting a function point by point, one list entry after another, each entry that touches `j` writing what `tgt` wants there:
    afterwards `j` is as `tgt` wants it if an entry touched it, and as before if none did. -/
theorem foldl_rewrite {ι α V : Type} (l : List ι) (hit : ι → α → Prop) [∀ k j, Decidable (hit k j)] (val : ι → V) (tgt : α → V) (j : α)
    (hv : ∀ k, hit k j → val k = tgt j) (g : α → V) :
    (l.foldl (fun g k => fun j' => if hit k j' then val k else g j') g) j = tgt j
      ∨ ((∀ k ∈ l, ¬ hit k j) ∧ (l.foldl (fun g k => fun j' => if hit k j' then val k else g j') g) j = g j) := by
  induction l generalizing g with
  | nil => exact .inr ⟨fun k hk => absurd hk List.not_mem_nil, rfl⟩
  | cons k l ih =>
    rw [List.foldl_cons]
    rcases ih (fun j' => if hit k j' then val k else g j') with h | ⟨h, e⟩
    · exact .inl h
    · rw [e]
      by_cases hk : hit k j
      · exact .inl ((if_pos hk).trans (hv k hk))
      · exact .inr ⟨fun k' hk' => (List.mem_cons.mp hk').elim (fun e => e ▸ hk) (h k'), if_neg hk⟩

/-- An unmasked indexed store of sixteen lanes, whose every lane holds the element `tgt` wants where the lane points: an element a lane
    names is as `tgt` wants it, and one no lane names is as it was. -/
theorem storeIdx_or {n : ℕ} {e : EltTy} (f : Vec F ⟨1, ![n]⟩ e) (ix : IVec ⟨1, ![16]⟩ 32) (v : Vec F ⟨1, ![16]⟩ e)
    (h : ∀ a x, ((![ix] : Fin 1 → IVec ⟨1, ![16]⟩ 32) a x).toNat < (⟨1, ![n]⟩ : Shape).size a) (tgt : Vec F ⟨1, ![n]⟩ e)
    (hv : ∀ (l : Fin 16) (j : (⟨1, ![n]⟩ : Shape).Idx), (j 0).val = (ix (ix1 l)).toNat → v (ix1 l) = tgt j) (j : (⟨1, ![n]⟩ : Shape).Idx) :
    storeIdx f ![ix] v (fun _ => 1#1) false h j = tgt j
      ∨ ((∀ l : Fin 16, (j 0).val ≠ (ix (ix1 l)).toNat) ∧ storeIdx f ![ix] v (fun _ => 1#1) false h j = f j) := by
  have hiff : ∀ k : Fin 16, (∀ a, (j a).val = (idxAt ![ix] h (ix1 k) a).val) ↔ (j 0).val = (ix (ix1 k)).toNat := fun k =>
    ⟨fun hh => hh 0, fun hh a => by match a with | ⟨0, _⟩ => exact hh⟩
  have hlane : ∀ k : Fin 16, (Shape.ofLane (d := ![16]) k) = ix1 k := fun k => by funext a; match a with | ⟨0, _⟩ => rfl
  rcases foldl_rewrite (List.finRange 16) (fun k (j' : (⟨1, ![n]⟩ : Shape).Idx) => ∀ a, (j' a).val = (idxAt ![ix] h (Shape.ofLane (d := ![16]) k) a).val)
    (fun k => v (Shape.ofLane (d := ![16]) k)) tgt j (fun k hk => by
      rw [hlane k] at hk ⊢; exact hv k j ((hiff k).mp hk)) f with e | ⟨hn, e⟩
  · exact .inl e
  · exact .inr ⟨fun k hk => hn k (List.mem_finRange k) (by rw [hlane k]; exact (hiff k).mpr hk), e⟩

/-! ## The two inner loops' progress -/

/-- The box channels' progress: cells before group `g` have their five box channels, group `g`'s sixteen cells the first `s`. -/
def boxDone (tgt f : (⟨1, ![22016]⟩ : Shape).Idx → F .f32) (g s : ℕ) : Prop :=
  ∀ q : (⟨1, ![22016]⟩ : Shape).Idx, (q 0).val % 86 < 5 →
    ((q 0).val / 86 < 16 * g ∨ ((q 0).val / 86 < 16 * g + 16 ∧ (q 0).val % 86 < s)) → f q = tgt q

/-- The logistic channels' progress: every cell has its five box channels, and, counting sixteen-cell groups channel by channel
    from the fifth channel on, the first `n` groups are there. -/
def sigDone (tgt f : (⟨1, ![22016]⟩ : Shape).Idx → F .f32) (n : ℕ) : Prop :=
  ∀ q : (⟨1, ![22016]⟩ : Shape).Idx, ((q 0).val % 86 < 5 ∨ ((q 0).val % 86 - 5) * 16 + (q 0).val / 86 / 16 < n) → f q = tgt q

/-- Before the first group nothing is claimed. -/
theorem boxDone_zero (tgt f : (⟨1, ![22016]⟩ : Shape).Idx → F .f32) : boxDone tgt f 0 0 := fun q _ h => by omega

/-- A group with all five channels is the next group's start. -/
theorem boxDone_next {tgt f : (⟨1, ![22016]⟩ : Shape).Idx → F .f32} {g : ℕ} (h : boxDone tgt f g 5) : boxDone tgt f (g + 1) 0 :=
  fun q h5 hq => h q h5 (by omega)

/-- After all sixteen groups the box channels are there. -/
theorem sigDone_zero {tgt f : (⟨1, ![22016]⟩ : Shape).Idx → F .f32} (h : boxDone tgt f 16 0) : sigDone tgt f 0 :=
  fun q hq => h q (by omega) (by have : (q 0).val < 22016 := (q 0).isLt; omega)

/-- After all 1296 groups the scratch is the chunk's. -/
theorem sigDone_all {tgt f : (⟨1, ![22016]⟩ : Shape).Idx → F .f32} (h : sigDone tgt f 1296) : f = tgt :=
  funext fun q => h q (by have : (q 0).val < 22016 := (q 0).isLt; omega)

/-- One store of box channel `s` of group `g`. -/
theorem boxDone_step {a pc g s : ℕ} {b : (⟨2, ![86, 256]⟩ : Shape).Idx → F .f32} {f : Vec F ⟨1, ![22016]⟩ .f32} (hg : g < 16) (hs : s < 5)
    (ix : IVec ⟨1, ![16]⟩ 32) (v : Vec F ⟨1, ![16]⟩ .f32)
    (h : ∀ a x, ((![ix] : Fin 1 → IVec ⟨1, ![16]⟩ 32) a x).toNat < (⟨1, ![22016]⟩ : Shape).size a)
    (hix : ∀ l : Fin 16, (ix (ix1 l)).toNat = (16 * g + l.val) * 86 + s)
    (hv : ∀ l : Fin 16, v (ix1 l) = cellVal a (pc * 256 + (16 * g + l.val)) s (b (ix2 ⟨s, by omega⟩ ⟨16 * g + l.val, by omega⟩)))
    (hf : boxDone (chunkOut a pc b) f g s) :
    boxDone (chunkOut a pc b) (storeIdx f ![ix] v (fun _ => 1#1) false h) g (s + 1) := by
  intro q h5 hq
  rcases storeIdx_or f ix v h (chunkOut a pc b) (fun l j hj => by
    rw [hv l]; exact (chunkOut_at a pc b j ⟨16 * g + l.val, by omega⟩ ⟨s, by omega⟩ (hj.trans (hix l))).symm) q with e | ⟨hn, e⟩
  · exact e
  · refine e.trans (hf q h5 ?_)
    rcases hq with hq | ⟨hq, hq'⟩
    · exact .inl hq
    · by_cases hlt : (q 0).val / 86 < 16 * g
      · exact .inl hlt
      · refine .inr ⟨hq, ?_⟩
        by_contra hs'
        refine hn ⟨(q 0).val / 86 - 16 * g, by omega⟩ ?_
        rw [hix]; show (q 0).val = (16 * g + ((q 0).val / 86 - 16 * g)) * 86 + s; omega

/-- One store of the logistic channels: group `n`, which is cells `16 * (n % 16) …` of channel `5 + n / 16`. -/
theorem sigDone_step {a pc n : ℕ} {b : (⟨2, ![86, 256]⟩ : Shape).Idx → F .f32} {f : Vec F ⟨1, ![22016]⟩ .f32} (hn : n < 1296)
    (ix : IVec ⟨1, ![16]⟩ 32) (v : Vec F ⟨1, ![16]⟩ .f32)
    (h : ∀ a x, ((![ix] : Fin 1 → IVec ⟨1, ![16]⟩ 32) a x).toNat < (⟨1, ![22016]⟩ : Shape).size a)
    (hix : ∀ l : Fin 16, (ix (ix1 l)).toNat = (16 * (n % 16) + l.val) * 86 + (5 + n / 16))
    (hv : ∀ l : Fin 16, v (ix1 l) = sigm (b (ix2 ⟨5 + n / 16, by omega⟩ ⟨16 * (n % 16) + l.val, by omega⟩)))
    (hf : sigDone (chunkOut a pc b) f n) :
    sigDone (chunkOut a pc b) (storeIdx f ![ix] v (fun _ => 1#1) false h) (n + 1) := by
  intro q hq
  rcases storeIdx_or f ix v h (chunkOut a pc b) (fun l j hj => by
    rw [hv l, chunkOut_at a pc b j ⟨16 * (n % 16) + l.val, by omega⟩ ⟨5 + n / 16, by omega⟩ (hj.trans (hix l)),
      cellVal_ge _ _ _ _ (by show 5 ≤ 5 + n / 16; omega)]) q with e | ⟨hne, e⟩
  · exact e
  · refine e.trans (hf q ?_)
    by_contra hcon
    refine hne ⟨(q 0).val / 86 % 16, by omega⟩ ?_
    rw [hix]
    have : (q 0).val < 22016 := (q 0).isLt
    show (q 0).val = (16 * (n % 16) + (q 0).val / 86 % 16) * 86 + (5 + n / 16)
    omega

end Cert.Proof.Value

end
-- ==== Proof.KernelIdeal.Arith.lean ====
/-
  The kernel's integer arithmetic in closed form, and its vector values lane by lane: which chunk, slab, anchor and cells a trip
  is about, where each indexed store's lanes point, and that each stored lane holds the output element wanted there.
-/
module

public import proofs.«01_k».proof.Defs
public import proofs.«01_k».proof.Proof.Value
public import Idealize.ShloMosaic.Lib.Pipeline.Value
public import proofs.«01_k».proof.Proof.Gen.KernelIdeal
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.SL.Sem
open Idealize.ShloMosaic.ValueIdx
open Cert.Proof.Value

variable {F : FTy → Type} [FloatOps F]

/-! ## Which chunk -/

/-- Tile number `2 * subcore + core`. -/
abbrev tileNo (i : grid0.Coords) : ℕ := 2 * (i 1).val + (i 0).val

/-- The chunk trip `k` of a tile works on. -/
abbrev chunkNo (i : grid0.Coords) (k : Fin k0_t1_loop.trips) : ℕ := tileNo i * 72 + k.val

/-- There are 32 tiles. -/
theorem tileNo_lt (i : grid0.Coords) : tileNo i < 32 := by
  have h0 : (i 0).val < 2 := (i 0).isLt
  have h1 : (i 1).val < 16 := (i 1).isLt
  show 2 * (i 1).val + (i 0).val < 32
  omega

/-- A tile has 72 chunks, -/
theorem trips1 : k0_t1_loop.trips = 72 := by decide
/-- the box loop 16 trips, -/
theorem trips2 : k0_t2_loop.trips = 16 := by decide
/-- and the logistic loop 1296. -/
theorem trips3 : k0_t3_loop.trips = 1296 := by decide

/-- There are 2304 chunks. -/
theorem chunkNo_lt (i : grid0.Coords) (k : Fin k0_t1_loop.trips) : chunkNo i k < 2304 := by
  have h := tileNo_lt i
  have hk : k.val < 72 := trips1 ▸ k.isLt
  show tileNo i * 72 + k.val < 2304
  omega

/-- The input slice of a trip: slab `t / 16`, all channels, cells from `t % 16 * 256` on. -/
theorem off1_eq : ∀ (i : grid0.Coords) (k : Fin k0_t1_loop.trips),
    k0_off1 i k = ![chunkNo i k / 16, 0, chunkNo i k % 16 * 256] := by decide +kernel

/-- The load of the logistic loop's trip: channel `5 + n / 16`, cells from `16 * (n % 16)` on. -/
theorem off7_eq : ∀ n : Fin k0_t3_loop.trips, k0_off7 n = ![5 + n.val / 16, 16 * (n.val % 16)] := by decide +kernel

/-! ## The trip's scalars -/

/-- The tile number as the body computes it. -/
abbrev tileWord (i : grid0.Coords) : BitVec 32 := Scalar.addi (Scalar.muli (BitVec.ofNat 32 (i 1).val) 2#32) (BitVec.ofNat 32 (i 0).val)

/-- The chunk number as the body computes it. -/
def wChunk (v1 : BitVec 32) (k : Fin k0_t1_loop.trips) : BitVec 32 := Scalar.addi (Scalar.muli v1 72#32) (Scf.iv 0#32 1#32 k)
/-- A floor division by 16 as the body spells it. -/
def wFloor16 (x : BitVec 32) : BitVec 32 :=
  Scalar.select (Scalar.andi (Scalar.cmpi .ne (Scalar.subi (Scalar.extui (Scalar.cmpi .sgt x 0#32) : BitVec 32) (Scalar.extui (Scalar.cmpi .slt x 0#32)))
      (Scalar.subi (Scalar.extui (Scalar.cmpi .sgt 16#32 0#32)) (Scalar.extui (Scalar.cmpi .slt 16#32 0#32)))) (Scalar.cmpi .ne (Scalar.remsi x 16#32) 0#32))
    (Scalar.subi (Scalar.divsi x 16#32) 1#32) (Scalar.divsi x 16#32)
/-- A remainder by 18 as the body spells it. -/
def wMod18 (x : BitVec 32) : BitVec 32 :=
  let m : BitVec 32 := Scalar.select (Scalar.cmpi .eq 18#32 0#32) 1#32 18#32
  let r : BitVec 32 := Scalar.remsi x m
  Scalar.select (Scalar.andi (Scalar.xori (Scalar.cmpi .slt r 0#32) (Scalar.cmpi .slt m 0#32)) (Scalar.cmpi .ne r 0#32)) (Scalar.addi r m) r

/-- The body's chunk number is the chunk's number. -/
theorem wChunk_eq : ∀ (i : grid0.Coords) (k : Fin k0_t1_loop.trips), wChunk (tileWord i) k = BitVec.ofNat 32 (chunkNo i k) := by decide +kernel
/-- The floor division by 16 of a chunk number is the quotient, -/
theorem wFloor16_eq : ∀ t : Fin 2304, wFloor16 (BitVec.ofNat 32 t.val) = BitVec.ofNat 32 (t.val / 16) := by decide +kernel
/-- the remainder by 18 of a slab number is the remainder, -/
theorem wMod18_eq : ∀ t : Fin 144, wMod18 (BitVec.ofNat 32 t.val) = BitVec.ofNat 32 (t.val % 18) := by decide +kernel
/-- and a chunk number less 16 times its quotient is its remainder by 16. -/
theorem wRest_eq : ∀ t : Fin 2304, Scalar.subi (BitVec.ofNat 32 t.val) (Scalar.muli (BitVec.ofNat 32 (t.val / 16)) 16#32) = BitVec.ofNat 32 (t.val % 16) := by
  decide +kernel

/-- The anchor's own words: its group of six angles, its sign. -/
abbrev wGroup (a : BitVec 32) : BitVec 32 := Scalar.divsi a 6#32
/-- The anchor's sign, -/
abbrev wSign (a : BitVec 32) : BitVec 32 := Scalar.subi (Scalar.extui (Scalar.cmpi .sgt a 0#32) : BitVec 32) (Scalar.extui (Scalar.cmpi .slt a 0#32))
/-- and the sign of 6. -/
abbrev wSign6 : BitVec 32 := Scalar.extui (Scalar.cmpi .sgt 6#32 0#32)

/-- The width that the body selects is the anchor's, -/
theorem pay16_eq : ∀ a : Fin 18, k0_pay16 (F := F) (BitVec.ofNat 32 a.val) 6#32 (wGroup (BitVec.ofNat 32 a.val)) (wSign (BitVec.ofNat 32 a.val)) wSign6 0#32
    = widthOf a.val := by
  intro a; fin_cases a <;> rfl
/-- the height is, -/
theorem pay17_eq : ∀ a : Fin 18, k0_pay17 (F := F) (BitVec.ofNat 32 a.val) 6#32 (wGroup (BitVec.ofNat 32 a.val)) (wSign (BitVec.ofNat 32 a.val)) wSign6 0#32
    = heightOf a.val := by
  intro a; fin_cases a <;> rfl
/-- and the angle is. -/
theorem pay18_eq : ∀ a : Fin 18, k0_pay18 (F := F) (BitVec.ofNat 32 a.val) 6#32 (wGroup (BitVec.ofNat 32 a.val)) (wSign (BitVec.ofNat 32 a.val)) wSign6 0#32
    = angleOf a.val := by
  intro a; fin_cases a <;> rfl

/-- The anchor of a chunk. -/
abbrev anchorNo (i : grid0.Coords) (k : Fin k0_t1_loop.trips) : ℕ := chunkNo i k / 16 % 18
/-- Which sixteenth of the grid a chunk is. -/
abbrev partNo (i : grid0.Coords) (k : Fin k0_t1_loop.trips) : ℕ := chunkNo i k % 16

/-! ## Lanes -/

/-- The lane numbers. -/
abbrev lanes : IVec S16 32 := iota .scVector S16 32 [0] iota_S16_d0_w32_scVector

/-- Lane `l` holds `l`. -/
theorem lanes_at (l : Fin 16) : lanes (ix1 l) = BitVec.ofNat 32 l.val := by
  show BitVec.ofNat 32 (0 * 16 + l.val) = _
  rw [Nat.zero_mul, Nat.zero_add]

/-- The first box store's lanes: cell `16 * g + l`, channel 0. -/
theorem pay9_toNat (g : Fin k0_t2_loop.trips) (l : Fin 16) : (k0_pay9 lanes 0#32 1#32 g (ix1 l)).toNat = (16 * g.val + l.val) * 86 + 0 := by
  have hg : g.val < 16 := trips2 ▸ g.isLt
  have e : k0_pay9 lanes 0#32 1#32 g (ix1 l) = (lanes (ix1 l) + (0#32 + BitVec.ofNat 32 g.val * 1#32) * 16#32) * 86#32 := rfl
  rw [e, lanes_at]
  simp only [BitVec.toNat_mul, BitVec.toNat_add, BitVec.toNat_ofNat]
  omega

/-- Adding a channel to a lane's word adds it to the number: nothing wraps. -/
theorem add_toNat (ix : IVec S16 32) (l : Fin 16) (n s : ℕ) (hn : n < 30000) (hs : s < 86) (h : (ix (ix1 l)).toNat = n) :
    (ix (ix1 l) + BitVec.ofNat 32 s).toNat = n + s := by
  simp only [BitVec.toNat_add, BitVec.toNat_ofNat, h]
  omega

/-- The second store's lanes: channel 1, -/
theorem pay14_toNat (g : Fin k0_t2_loop.trips) (l : Fin 16) : (k0_pay14 (k0_pay9 lanes 0#32 1#32 g) (ix1 l)).toNat = (16 * g.val + l.val) * 86 + 1 := by
  have hg : g.val < 16 := trips2 ▸ g.isLt
  exact add_toNat _ l _ 1 (by omega) (by omega) (pay9_toNat g l)
/-- the third's: channel 2, -/
theorem pay1_toNat (g : Fin k0_t2_loop.trips) (l : Fin 16) : (k0_pay1 (k0_pay9 lanes 0#32 1#32 g) (ix1 l)).toNat = (16 * g.val + l.val) * 86 + 2 := by
  have hg : g.val < 16 := trips2 ▸ g.isLt
  exact add_toNat _ l _ 2 (by omega) (by omega) (pay9_toNat g l)
/-- the fourth's: channel 3, -/
theorem pay3_toNat (g : Fin k0_t2_loop.trips) (l : Fin 16) : (k0_pay3 (k0_pay9 lanes 0#32 1#32 g) (ix1 l)).toNat = (16 * g.val + l.val) * 86 + 3 := by
  have hg : g.val < 16 := trips2 ▸ g.isLt
  exact add_toNat _ l _ 3 (by omega) (by omega) (pay9_toNat g l)
/-- and the fifth's: channel 4. -/
theorem pay5_toNat (g : Fin k0_t2_loop.trips) (l : Fin 16) : (k0_pay5 (k0_pay9 lanes 0#32 1#32 g) (ix1 l)).toNat = (16 * g.val + l.val) * 86 + 4 := by
  have hg : g.val < 16 := trips2 ▸ g.isLt
  exact add_toNat _ l _ 4 (by omega) (by omega) (pay9_toNat g l)

/-- A lane vector pointing at cell `16 * g + l`, channel `s`, points inside the scratch. -/
theorem lanes_inb (ix : IVec S16 32) (g s : ℕ) (hg : g < 16) (hs : s < 86) (h : ∀ l : Fin 16, (ix (ix1 l)).toNat = (16 * g + l.val) * 86 + s) :
    ∀ a x, ((![ix] : Fin 1 → IVec S16 32) a x).toNat < S22016.size a := by
  intro a x
  match a with
  | ⟨0, _⟩ =>
    show (ix x).toNat < 22016
    have hx : (x 0).val < 16 := (x 0).isLt
    rw [eq_ix1 x]
    refine (h (x 0)).trans_lt ?_
    omega

/-! ## The stored lanes -/

/-- A loaded row of sixteen, as a vector. -/
theorem row_at {α : Type} (ld : S1x16.Idx → α) (l : Fin 16) : shapeCast S16 ld shapeCasts_S1x16_S16 (ix1 l) = ld (ix2 0 l) :=
  shapeCast_apply ld _ (ix1 l) (ix2 0 l) (by
    show (Shape.rowMajor (s := ⟨2, ![1, 16]⟩) (ix2 0 l)).val = (Shape.rowMajor (s := ⟨1, ![16]⟩) (ix1 l)).val
    rw [Shape.rowMajor_val_two, Shape.rowMajor_val_one]
    show 0 * 16 + l.val = l.val
    omega)

/-- The column at which a group begins, as the body computes it, -/
def gxWord (g : Fin k0_t2_loop.trips) : BitVec 32 :=
  let m : BitVec 32 := Scalar.select (Scalar.cmpi .eq 4#32 0#32) 1#32 4#32
  let r : BitVec 32 := Scalar.remsi (Scf.iv 0#32 1#32 g) m
  Scalar.muli (Scalar.select (Scalar.andi (Scalar.xori (Scalar.cmpi .slt r 0#32) (Scalar.cmpi .slt m 0#32)) (Scalar.cmpi .ne r 0#32)) (Scalar.addi r m) r) 16#32
/-- is 16 times the group number's remainder by 4. -/
theorem gxWord_eq : ∀ g : Fin k0_t2_loop.trips, gxWord g = BitVec.ofNat 32 (g.val % 4 * 16) := by decide +kernel

/-- The column coordinate of a lane's cell. -/
theorem pay10_at (pc : ℕ) (g : Fin k0_t2_loop.trips) (l : Fin 16) :
    k0_pay10 (F := F) lanes 0#32 1#32 g (ix1 l) = FloatOps.sitofp .f32 (BitVec.ofNat 32 ((pc * 256 + (16 * g.val + l.val)) % 64)) := by
  have e : k0_pay10 (F := F) lanes 0#32 1#32 g (ix1 l) = FloatOps.sitofp .f32 (gxWord g + lanes (ix1 l)) := rfl
  rw [e, gxWord_eq, lanes_at]
  congr 1
  apply BitVec.eq_of_toNat_eq
  simp only [BitVec.toNat_add, BitVec.toNat_ofNat]
  omega

/-- The group's row within the chunk, as the body computes it, -/
def gyWord (g : Fin k0_t2_loop.trips) : BitVec 32 :=
  let x : BitVec 32 := Scf.iv 0#32 1#32 g
  Scalar.select (Scalar.andi (Scalar.cmpi .ne (Scalar.subi (Scalar.extui (Scalar.cmpi .sgt x 0#32) : BitVec 32) (Scalar.extui (Scalar.cmpi .slt x 0#32)))
      (Scalar.subi (Scalar.extui (Scalar.cmpi .sgt 4#32 0#32)) (Scalar.extui (Scalar.cmpi .slt 4#32 0#32)))) (Scalar.cmpi .ne (Scalar.remsi x 4#32) 0#32))
    (Scalar.subi (Scalar.divsi x 4#32) 1#32) (Scalar.divsi x 4#32)
/-- is the group number's quotient by 4. -/
theorem gyWord_eq : ∀ g : Fin k0_t2_loop.trips, gyWord g = BitVec.ofNat 32 (g.val / 4) := by decide +kernel

/-- The row coordinate of the group's cells. -/
theorem pay11_eq (pc : ℕ) (hpc : pc < 16) (g : Fin k0_t2_loop.trips) (l : Fin 16) :
    k0_pay11 (F := F) (BitVec.ofNat 32 pc) 0#32 1#32 g = Scalar.sitofp .f32 (BitVec.ofNat 32 ((pc * 256 + (16 * g.val + l.val)) / 64)) := by
  have e : k0_pay11 (F := F) (BitVec.ofNat 32 pc) 0#32 1#32 g = Scalar.sitofp .f32 (Scalar.addi (Scalar.muli (BitVec.ofNat 32 pc) 4#32) (gyWord g)) := by
    unfold k0_pay11 gyWord; rfl
  rw [e, gyWord_eq]
  congr 1
  show BitVec.ofNat 32 pc * 4#32 + BitVec.ofNat 32 (g.val / 4) = _
  apply BitVec.eq_of_toNat_eq
  have hg : g.val < 16 := trips2 ▸ g.isLt
  simp only [BitVec.toNat_add, BitVec.toNat_mul, BitVec.toNat_ofNat]
  omega

/-- Box channel 0 of a group: the centres' columns. -/
theorem pay12_at (a pc : ℕ) (g : Fin k0_t2_loop.trips) (ld : Vec F S1x16 .f32) (l : Fin 16) :
    k0_pay12 (k0_pay10 (F := F) lanes 0#32 1#32 g) ld (ix1 l) = cellVal a (pc * 256 + (16 * g.val + l.val)) 0 (ld (ix2 0 l)) := by
  have e : k0_pay12 (k0_pay10 (F := F) lanes 0#32 1#32 g) ld (ix1 l)
      = FloatOps.mulf (FloatOps.addf (FloatOps.subf (FloatOps.mulf (sigm (shapeCast S16 ld shapeCasts_S1x16_S16 (ix1 l))) (FloatOps.ofBits .f32 0x3F866666#32))
        (FloatOps.ofBits .f32 0x3CCCCCCD#32)) (k0_pay10 (F := F) lanes 0#32 1#32 g (ix1 l))) (FloatOps.ofBits .f32 0x41000000#32) := rfl
  rw [e, row_at, pay10_at pc]; rfl
/-- Box channel 1 of a group: the centres' rows. -/
theorem pay13_at (a pc : ℕ) (hpc : pc < 16) (g : Fin k0_t2_loop.trips) (ld : Vec F S1x16 .f32) (l : Fin 16) :
    k0_pay13 (k0_pay11 (F := F) (BitVec.ofNat 32 pc) 0#32 1#32 g) ld (ix1 l) = cellVal a (pc * 256 + (16 * g.val + l.val)) 1 (ld (ix2 0 l)) := by
  have e : k0_pay13 (k0_pay11 (F := F) (BitVec.ofNat 32 pc) 0#32 1#32 g) ld (ix1 l)
      = FloatOps.mulf (FloatOps.addf (FloatOps.subf (FloatOps.mulf (sigm (shapeCast S16 ld shapeCasts_S1x16_S16 (ix1 l))) (FloatOps.ofBits .f32 0x3F866666#32))
        (FloatOps.ofBits .f32 0x3CCCCCCD#32)) (k0_pay11 (F := F) (BitVec.ofNat 32 pc) 0#32 1#32 g)) (FloatOps.ofBits .f32 0x41000000#32) := rfl
  rw [e, row_at, pay11_eq pc hpc g l]; rfl
/-- Box channel 2: the widths. -/
theorem pay2_at (a pos : ℕ) (ld : Vec F S1x16 .f32) (l : Fin 16) : k0_pay2 (widthOf (F := F) a) ld (ix1 l) = cellVal a pos 2 (ld (ix2 0 l)) := by
  have e : k0_pay2 (widthOf (F := F) a) ld (ix1 l) = FloatOps.mulf (FloatOps.exp (shapeCast S16 ld shapeCasts_S1x16_S16 (ix1 l))) (widthOf a) := rfl
  rw [e, row_at]; rfl
/-- Box channel 3: the heights. -/
theorem pay4_at (a pos : ℕ) (ld : Vec F S1x16 .f32) (l : Fin 16) : k0_pay4 (heightOf (F := F) a) ld (ix1 l) = cellVal a pos 3 (ld (ix2 0 l)) := by
  have e : k0_pay4 (heightOf (F := F) a) ld (ix1 l) = FloatOps.mulf (FloatOps.exp (shapeCast S16 ld shapeCasts_S1x16_S16 (ix1 l))) (heightOf a) := rfl
  rw [e, row_at]; rfl
/-- Box channel 4: the angles. -/
theorem pay6_at (a pos : ℕ) (ld : Vec F S1x16 .f32) (l : Fin 16) : k0_pay6 (angleOf (F := F) a) ld (ix1 l) = cellVal a pos 4 (ld (ix2 0 l)) := by
  have e : k0_pay6 (angleOf (F := F) a) ld (ix1 l) = FloatOps.addf (shapeCast S16 ld shapeCasts_S1x16_S16 (ix1 l)) (angleOf a) := rfl
  rw [e, row_at]; rfl
/-- The logistic channels. -/
theorem pay8_at (ld : Vec F S1x16 .f32) (l : Fin 16) : k0_pay8 (k0_pay15 ld) (ix1 l) = sigm (ld (ix2 0 l)) := by
  have e : k0_pay8 (k0_pay15 ld) (ix1 l) = sigm (shapeCast S16 ld shapeCasts_S1x16_S16 (ix1 l)) := rfl
  rw [e, row_at]

/-- The logistic store's lanes: cell `16 * (n % 16) + l`, channel `5 + n / 16`. -/
theorem pay7_toNat (n : Fin k0_t3_loop.trips) (l : Fin 16) :
    (k0_pay7 (BitVec.ofNat 32 (5 + n.val / 16)) (BitVec.ofNat 32 (n.val % 16)) (ix1 l)).toNat = (16 * (n.val % 16) + l.val) * 86 + (5 + n.val / 16) := by
  have hn : n.val < 1296 := trips3 ▸ n.isLt
  have e : k0_pay7 (BitVec.ofNat 32 (5 + n.val / 16)) (BitVec.ofNat 32 (n.val % 16)) (ix1 l)
      = (lanes (ix1 l) + BitVec.ofNat 32 (n.val % 16) * 16#32) * 86#32 + BitVec.ofNat 32 (5 + n.val / 16) := rfl
  rw [e, lanes_at]
  simp only [BitVec.toNat_mul, BitVec.toNat_add, BitVec.toNat_ofNat]
  omega

/-- The logistic loop's channel at trip `n` is `5 + n / 16`, -/
theorem sigChannel_eq : ∀ n : Fin k0_t3_loop.trips, Scalar.addi 5#32 (wFloor16 (Scf.iv 0#32 1#32 n)) = BitVec.ofNat 32 (5 + n.val / 16) := by decide +kernel
/-- and its group is `n % 16`. -/
theorem sigGroup_eq : ∀ n : Fin k0_t3_loop.trips,
    Scalar.subi (Scf.iv 0#32 1#32 n) (Scalar.muli (wFloor16 (Scf.iv 0#32 1#32 n)) 16#32) = BitVec.ofNat 32 (n.val % 16) := by decide +kernel

end Cert.Proof.KernelIdeal

end
-- ==== Proof.KernelIdeal.Setup.lean ====
/-
  The launch as the proof sees it: the program's tables, the resource algebra, the buffers, and what the launch's handshakes carry.
  Tile `w` is handed a share of the input and elements `w * 1585152 …` of the flat output, and brings the latter back written.
-/
module

public import proofs.«01_k».proof.Defs
public import proofs.«01_k».proof.Proof.KernelIdeal.Arith
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Value

variable {F : FTy → Type}

/-! ## The program's tables -/

abbrev ΛP : Labels := Pipeline.Sig Λ₀ (Fin 0) fun p => (pcfgs (F := F) p).Adm
abbrev K : SparseCore.Cfg τ sig (ΛP (F := F)) 1 := sc (F := F)
/-- A launch has sixteen subcores a core, -/
theorem nSub_zero : (K (F := F)).nSub 0 = 16 := rfl
/-- on two cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The program's argument, -/
abbrev aLoc (d : Dev nD) : Loc nD τ sig := (SparseCore.T d).loc main_arg0
/-- the launch's input: the argument with slabs and cells as axes, -/
abbrev xLoc (d : Dev nD) : Loc nD τ sig := (SparseCore.T d).loc main_v0
/-- the launch's flat output, -/
abbrev oLoc (d : Dev nD) : Loc nD τ sig := (SparseCore.T d).loc main_v1
/-- and the program's result. -/
abbrev rLoc (d : Dev nD) : Loc nD τ sig := (SparseCore.T d).loc main_v2

local notation "xV" => (Memref.whole Cert.KernelIdeal.main_v0_scv : Memref Cert.KernelIdeal.sig Kind.scVector Space.hbm Cert.KernelIdeal.S144x86x4096 EltTy.f32)
local notation "oV" => (Memref.whole Cert.KernelIdeal.main_v1_scv : Memref Cert.KernelIdeal.sig Kind.scVector Space.hbm Cert.KernelIdeal.S50724864 EltTy.f32)
local notation "sV" => (Memref.whole Cert.KernelIdeal.cc0_scratch0 : Memref Cert.KernelIdeal.sig Kind.scVector Space.vmem Cert.KernelIdeal.S86x256 EltTy.f32)
local notation "rV" => (Memref.whole Cert.KernelIdeal.cc0_scratch1 : Memref Cert.KernelIdeal.sig Kind.scVector Space.vmem Cert.KernelIdeal.S22016 EltTy.f32)

/-- The part of the flat output that tile `w` writes. -/
def region (w : ℕ) : Finset S50724864.Idx := Finset.univ.filter fun j => (j 0).val / 1585152 = w

/-- An element lies in tile `w`'s part when its number divided by the length of a part is `w`. -/
theorem mem_region (w : ℕ) (j : S50724864.Idx) : j ∈ region w ↔ (j 0).val / 1585152 = w := by
  unfold region; rw [Finset.mem_filter]; exact and_iff_right (Finset.mem_univ _)

/-- Different tiles write different parts, -/
theorem region_disjoint (w w' : ℕ) (h : w ≠ w') : Disjoint (region w) (region w') := by
  rw [Finset.disjoint_left]
  intro j hj hj'
  rw [mem_region] at hj hj'
  exact h (hj.symm.trans hj')

/-- A launch's tile `(c, s)` by number. -/
abbrev tileOf (c s : ℕ) : ℕ := 2 * s + c

/-- and all of them together the whole output. -/
theorem region_cover : (Finset.univ : Finset (Fin 2 × Fin 16)).biUnion (fun p => region (tileOf p.1.val p.2.val)) = Finset.univ := by
  ext j
  simp only [Finset.mem_biUnion, Finset.mem_univ, true_and, iff_true, mem_region]
  have hj : (j 0).val < 50724864 := (j 0).isLt
  exact ⟨⟨⟨(j 0).val / 1585152 % 2, by omega⟩, ⟨(j 0).val / 1585152 / 2, by omega⟩⟩, by
    show _ = 2 * ((j 0).val / 1585152 / 2) + (j 0).val / 1585152 % 2; omega⟩

variable [FloatOps F]

/-! ## What the handshakes carry -/

variable (X : (d : Dev nD) → Buf (Elt F) (xLoc d)) (m : (ℓ : Loc nD τ sig) → Buf (Elt F) ℓ)

/-- The flat output wanted of input `X`. -/
abbrev want (d : Dev nD) : Buf (Elt F) (oLoc d) := flatOut (F := F) (X d)

/-- Tile `w`'s share of the input, -/
abbrev xPts (d : Dev nD) (w : ℕ) : sProp 𝕄 := xLoc d ↦{Transfers.shareTokN fullShare w} X d
/-- and its part of the output at contents `f`. -/
abbrev oPts (d : Dev nD) (w : ℕ) (f : Buf (Elt F) (oLoc d)) : sProp 𝕄 := oLoc d ↦[region w]{fullShare} f

/-- A core takes its tiles' shares of the input and parts of the output, and hands them out; each tile brings its part back
    written with the wanted elements, and the core brings its tiles' parts back. -/
def P : (K (F := F)).Pay (nD := nD) (Val := Elt F) (Name := ℕ) (U := UU) where
  st := fun q d c => match q with
    | 0 => bigSep Finset.univ fun i : Fin ((K (F := F)).nSub 0) => iprop(xPts X d (tileOf c.val i.val) ∗ oPts d (tileOf c.val i.val) (m (oLoc d)))
  dn := fun q d c => match q with
    | 0 => bigSep Finset.univ fun i : Fin ((K (F := F)).nSub 0) => oPts d (tileOf c.val i.val) (want X d)
  go := fun q d c i => match q with
    | 0 => iprop(xPts X d (tileOf c.val i.val) ∗ oPts d (tileOf c.val i.val) (m (oLoc d)))
  td := fun q d c i => match q with
    | 0 => oPts d (tileOf c.val i.val) (want X d)
  x := fun _ _ => iprop(emp)

instance P_storable : (P (F := F) X m).IsStorable where
  st q d c := match q with
    | 0 => (inferInstance : BI.Storable (upEmb : UEmb _ 𝕄)
      (bigSep Finset.univ fun i : Fin ((K (F := F)).nSub 0) => iprop(xPts X d (tileOf c.val i.val) ∗ oPts d (tileOf c.val i.val) (m (oLoc d)))))
  dn q d c := match q with
    | 0 => (inferInstance : BI.Storable (upEmb : UEmb _ 𝕄)
      (bigSep Finset.univ fun i : Fin ((K (F := F)).nSub 0) => oPts d (tileOf c.val i.val) (want X d)))
  go q d c i := match q with
    | 0 => (inferInstance : BI.Storable (upEmb : UEmb _ 𝕄) iprop(xPts X d (tileOf c.val i.val) ∗ oPts d (tileOf c.val i.val) (m (oLoc d))))
  td q d c i := match q with
    | 0 => (inferInstance : BI.Storable (upEmb : UEmb _ 𝕄) (oPts d (tileOf c.val i.val) (want X d)))

/-! ## A tile's scratch -/

abbrev cV (L : grid0.Coords) : Fin τ.nSC := (L 0).castLE hcore0
abbrev jV (L : grid0.Coords) : Fin τ.nSub := (L 1).castLE hsub0

/-- The fetched cells, all channels, -/
abbrev sPts (d : Dev nD) (L : grid0.Coords) (I : Buf (Elt F) ((V d (cV L) (jV L)).loc cc0_scratch0)) : sProp 𝕄 :=
  (sV).view.loc (V d (cV L) (jV L)) ↦{fullShare} I
/-- and the chunk being built. -/
abbrev rPts (d : Dev nD) (L : grid0.Coords) (f : Buf (Elt F) ((V d (cV L) (jV L)).loc cc0_scratch1)) : sProp 𝕄 :=
  (rV).view.loc (V d (cV L) (jV L)) ↦{fullShare} f

omit [FloatOps F] in
/-- Holding the whole of the chunk through the view a load or store uses is holding the chunk. -/
theorem rPts_whole (d : Dev nD) (L : grid0.Coords) (f : Buf (Elt F) ((V d (cV L) (jV L)).loc cc0_scratch1)) :
    (((rV).access (.whole S22016)).loc (V d (cV L) (jV L)) ↦[((rV).access (.whole S22016)).set]{fullShare} f : sProp 𝕄) = rPts d L f := by
  rw [show ((rV).access (.whole S22016)).set = Finset.univ from Memref.set_access_whole (cc0_scratch1 : Ref sig .scVector)]

/-- An indexed store into the chunk: afterwards it holds `storeIdx` of what it held. -/
theorem wp_scatter {Λ : Labels} {defs : Defs nD τ sig (Elt F) Λ} {𝒲 : Variants} (d : Dev nD) (L : grid0.Coords) {α : Type} {bd : Option 𝒲.V}
    {idxs : Fin S22016.rank → IVec ⟨1, ![16]⟩ 32} {v : Vec F ⟨1, ![16]⟩ .f32} {mask : IVec ⟨1, ![16]⟩ 1} {h : ∀ a x, (idxs a x).toNat < S22016.size a}
    {hs : ((rV).access (.whole S22016)).Stores Finset.univ}
    {k : PUnit → Prog (TpuEff nD τ sig (Elt F) Λ (V d (cV L) (jV L)).2) α} {Q : α → sProp 𝕄} (f : Buf (Elt F) ((V d (cV L) (jV L)).loc cc0_scratch1)) :
    rPts d L f
      ⊢ iprop((rPts d L (storeIdx (F := F) (s := S22016) (e := .f32) f idxs v mask false h) -∗ wp frame (wpE defs 𝒲 (V d (cV L) (jV L)) bd) Set.univ (k ⟨⟩) Q)
        -∗ wp frame (wpE defs 𝒲 (V d (cV L) (jV L)) bd) Set.univ (SparseCore.vectorStoreIdx (rV) idxs v mask false h hs >>= k) Q) := by
  have e := SparseCore.wp_vectorStoreIdx (defs := defs) 𝒲 (V d (cV L) (jV L)) bd Set.univ (base := (rV)) (idxs := idxs) (v := v) (mask := mask) (add := false)
    (h := h) (hs := hs) (k := k) (Q := Q) (f := f)
  rw [Memref.write_access_whole_univ (Elt F) (cc0_scratch1 : Ref sig .scVector), Memref.read_access_whole (Elt F) (cc0_scratch1 : Ref sig .scVector)] at e
  rw [← rPts_whole d L f, ← rPts_whole d L (storeIdx (F := F) (s := S22016) (e := .f32) f idxs v mask false h)]
  exact e

/-- A load of the scratch rectangle `1 × 16` at `![c, p]`, lane by lane. -/
theorem load_at (I : S86x256.Idx → F .f32) (off : Fin 2 → ℕ) (c p : ℕ) (e : off = ![c, p]) (inb : ∀ a, off a + S1x16.size a ≤ S86x256.size a)
    (hc : c < 86) (l : Fin 16) (hp : p + l.val < 256) :
    (sV).view.readAt (Elt F) (Rect.unit (s := S86x256) off S1x16.size inb).toLoadRect I (ix2 0 l) = I (ix2 ⟨c, hc⟩ ⟨p + l.val, hp⟩) := by
  subst e
  rw [View.readAt_apply]
  show I _ = _
  congr 1
  funext a
  match a with
  | ⟨0, _⟩ => exact Fin.ext (by show c + 1 * 0 = c; omega)
  | ⟨1, _⟩ => exact Fin.ext (by show p + 1 * l.val = p + l.val; omega)

end Cert.Proof.KernelIdeal

end
-- ==== Proof.KernelIdeal.Trips.lean ====
/-
  One trip of each inner loop, as a Hoare triple on the two scratch buffers: a trip of the box loop stores sixteen cells' five box
  channels, a trip of the logistic loop sixteen cells of one other channel.
-/
module

public import proofs.«01_k».proof.Proof.KernelIdeal.Setup

@[expose] public section

set_option maxRecDepth 16384

noncomputable section

namespace Cert.Proof.KernelIdeal

open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Value

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S144x86x4096 EltTy.f32)
local notation "oV" => (Memref.whole Cert.KernelIdeal.main_v1_scv : Memref Cert.KernelIdeal.sig Kind.scVector Space.hbm Cert.KernelIdeal.S50724864 EltTy.f32)
local notation "sV" => (Memref.whole Cert.KernelIdeal.cc0_scratch0 : Memref Cert.KernelIdeal.sig Kind.scVector Space.vmem Cert.KernelIdeal.S86x256 EltTy.f32)
local notation "rV" => (Memref.whole Cert.KernelIdeal.cc0_scratch1 : Memref Cert.KernelIdeal.sig Kind.scVector Space.vmem Cert.KernelIdeal.S22016 EltTy.f32)

variable (d : Dev nD) (L : grid0.Coords)

/-- Trip `g` of the box loop: with the groups before `g` done, afterwards group `g` is done too. -/
theorem box_trip (a pc : ℕ) (hpc : pc < 16) (g : Fin k0_t2_loop.trips) (I : S86x256.Idx → F .f32) (f : S22016.Idx → F .f32)
    (hf : boxDone (chunkOut (F := F) a pc I) f g.val 0) :
    iprop(sPts d L I ∗ rPts d L f)
      ⊢ wp frame (wpE (defs₀ (F := F)) 𝒱₀ (V d (cV L) (jV L)) none) Set.univ
          (k0_t2_body (F := F) L xV (Memref.isWhole_whole _) oV (Memref.isWhole_whole _) sV (Memref.isWhole_whole _) rV (Memref.isWhole_whole _)
            cc0_scoped0 cc0_scoped1 lanes (BitVec.ofNat 32 pc) (widthOf a) (heightOf a) (angleOf a) g ())
          fun _ => iprop(∃ f', ⌜boxDone (chunkOut (F := F) a pc I) f' (g.val + 1) 0⌝ ∗ sPts d L I ∗ rPts d L f') := by
  have hg : g.val < 16 := trips2 ▸ g.isLt
  unfold k0_t2_body
  rw [k0_part1_eq_skeleton, k0_part2_eq_skeleton]
  unfold k0_part1_skel k0_part2_skel
  simp only [Prog.bind_lift, Prog.bind_op, Prog.bind_ret, pure_bind, bind_assoc]
  iintro ⟨Hs, Hr⟩
  have c1 : k0_chk1 (k0_pay9 lanes 0#32 1#32 g) :=
    lanes_inb _ g.val 0 hg (by decide) (pay9_toNat g)
  rw [wp_assume_of _ _ _ _ c1]
  iapply (wp_load 𝒱₀ (V d (cV L) (jV L)) none Set.univ (m := sV) (S := Finset.univ) (Finset.subset_univ _)) $$ Hs; iintro Hs
  have h0 := boxDone_step (a := a) (pc := pc) (b := I) hg (s := 0) (by decide) (k0_pay9 lanes 0#32 1#32 g) _ (lanes_inb _ g.val 0 hg (by decide) (pay9_toNat g)) (pay9_toNat g)
    (fun l => (pay12_at a pc g _ l).trans (congrArg _ (load_at I _ 0 (16 * g.val) (k0_off2_eq g) (k0_off2_inb g) (by decide) l (by omega)))) hf
  iapply (wp_scatter d L _) $$ Hr; iintro Hr
  iapply (wp_load 𝒱₀ (V d (cV L) (jV L)) none Set.univ (m := sV) (S := Finset.univ) (Finset.subset_univ _)) $$ Hs; iintro Hs
  have c2 : k0_chk2 (k0_pay14 (k0_pay9 lanes 0#32 1#32 g)) :=
    lanes_inb _ g.val 1 hg (by decide) (pay14_toNat g)
  rw [wp_assume_of _ _ _ _ c2]
  have h1 := boxDone_step (a := a) (pc := pc) (b := I) hg (s := 1) (by decide) (k0_pay14 (k0_pay9 lanes 0#32 1#32 g)) _ (lanes_inb _ g.val 1 hg (by decide) (pay14_toNat g)) (pay14_toNat g)
    (fun l => (pay13_at a pc hpc g _ l).trans (congrArg _ (load_at I _ 1 (16 * g.val) (k0_off3_eq g) (k0_off3_inb g) (by decide) l (by omega)))) h0
  iapply (wp_scatter d L _) $$ Hr; iintro Hr
  iapply (wp_load 𝒱₀ (V d (cV L) (jV L)) none Set.univ (m := sV) (S := Finset.univ) (Finset.subset_univ _)) $$ Hs; iintro Hs
  have c3 : k0_chk3 (k0_pay1 (k0_pay9 lanes 0#32 1#32 g)) :=
    lanes_inb _ g.val 2 hg (by decide) (pay1_toNat g)
  rw [wp_assume_of _ _ _ _ c3]
  have h2 := boxDone_step (a := a) (pc := pc) (b := I) hg (s := 2) (by decide) (k0_pay1 (k0_pay9 lanes 0#32 1#32 g)) _ (lanes_inb _ g.val 2 hg (by decide) (pay1_toNat g)) (pay1_toNat g)
    (fun l => (pay2_at a _ _ l).trans (congrArg _ (load_at I _ 2 (16 * g.val) (k0_off4_eq g) (k0_off4_inb g) (by decide) l (by omega)))) h1
  iapply (wp_scatter d L _) $$ Hr; iintro Hr
  iapply (wp_load 𝒱₀ (V d (cV L) (jV L)) none Set.univ (m := sV) (S := Finset.univ) (Finset.subset_univ _)) $$ Hs; iintro Hs
  have c4 : k0_chk4 (k0_pay3 (k0_pay9 lanes 0#32 1#32 g)) :=
    lanes_inb _ g.val 3 hg (by decide) (pay3_toNat g)
  rw [wp_assume_of _ _ _ _ c4]
  have h3 := boxDone_step (a := a) (pc := pc) (b := I) hg (s := 3) (by decide) (k0_pay3 (k0_pay9 lanes 0#32 1#32 g)) _ (lanes_inb _ g.val 3 hg (by decide) (pay3_toNat g)) (pay3_toNat g)
    (fun l => (pay4_at a _ _ l).trans (congrArg _ (load_at I _ 3 (16 * g.val) (k0_off5_eq g) (k0_off5_inb g) (by decide) l (by omega)))) h2
  iapply (wp_scatter d L _) $$ Hr; iintro Hr
  iapply (wp_load 𝒱₀ (V d (cV L) (jV L)) none Set.univ (m := sV) (S := Finset.univ) (Finset.subset_univ _)) $$ Hs; iintro Hs
  have c5 : k0_chk5 (k0_pay5 (k0_pay9 lanes 0#32 1#32 g)) :=
    lanes_inb _ g.val 4 hg (by decide) (pay5_toNat g)
  rw [wp_assume_of _ _ _ _ c5]
  have h4 := boxDone_step (a := a) (pc := pc) (b := I) hg (s := 4) (by decide) (k0_pay5 (k0_pay9 lanes 0#32 1#32 g)) _ (lanes_inb _ g.val 4 hg (by decide) (pay5_toNat g)) (pay5_toNat g)
    (fun l => (pay6_at a _ _ l).trans (congrArg _ (load_at I _ 4 (16 * g.val) (k0_off6_eq g) (k0_off6_inb g) (by decide) l (by omega)))) h3
  iapply (wp_scatter d L _) $$ Hr; iintro Hr
  sl_step
  iexists _; isplitr; · ipureintro; exact boxDone_next h4
  isplitl [Hs]; · iexact Hs
  iexact Hr

/-- What a trip of the logistic loop computes before its store: its channel and group, and the loaded cells. -/
theorem k0_part3_lift (n : Fin k0_t3_loop.trips) :
    k0_part3 (F := F) L xV (Memref.isWhole_whole _) oV (Memref.isWhole_whole _) sV (Memref.isWhole_whole _) rV (Memref.isWhole_whole _)
        cc0_scoped0 cc0_scoped1 0#32 1#32 n
      = (do
        let ld : Vec F S1x16 .f32 ← Prog.lift (.load sV (Rect.unit (s := S86x256) (k0_off7 n) S1x16.size (k0_off7_inb n)).toLoadRect (View.loadsAt_vmem h_S1x16))
        pure ⟨BitVec.ofNat 32 (5 + n.val / 16), BitVec.ofNat 32 (n.val % 16), k0_pay15 ld⟩) := by
  rw [k0_part3_eq_skeleton, ← sigChannel_eq n, ← sigGroup_eq n]; rfl

/-- Trip `n` of the logistic loop: with the box channels and the groups before `n` done, afterwards group `n` is done too. -/
theorem sig_trip (a pc : ℕ) (n : Fin k0_t3_loop.trips) (I : S86x256.Idx → F .f32) (f : S22016.Idx → F .f32)
    (hf : sigDone (chunkOut (F := F) a pc I) f n.val) :
    iprop(sPts d L I ∗ rPts d L f)
      ⊢ wp frame (wpE (defs₀ (F := F)) 𝒱₀ (V d (cV L) (jV L)) none) Set.univ
          (k0_t3_body (F := F) L xV (Memref.isWhole_whole _) oV (Memref.isWhole_whole _) sV (Memref.isWhole_whole _) rV (Memref.isWhole_whole _)
            cc0_scoped0 cc0_scoped1 n ())
          fun _ => iprop(∃ f', ⌜sigDone (chunkOut (F := F) a pc I) f' (n.val + 1)⌝ ∗ sPts d L I ∗ rPts d L f') := by
  have hn : n.val < 1296 := trips3 ▸ n.isLt
  have hch : 5 + n.val / 16 < 86 := by omega
  have hgr : n.val % 16 < 16 := by omega
  have hp := k0_part3_lift (F := F) L n
  unfold k0_t3_body
  simp only [hp]
  simp only [Prog.bind_lift, Prog.bind_op, Prog.bind_ret, pure_bind, bind_assoc]
  iintro ⟨Hs, Hr⟩
  iapply (wp_load 𝒱₀ (V d (cV L) (jV L)) none Set.univ (m := sV) (S := Finset.univ) (Finset.subset_univ _)) $$ Hs; iintro Hs
  have c6 : k0_chk6 (k0_pay7 (BitVec.ofNat 32 (5 + n.val / 16)) (BitVec.ofNat 32 (n.val % 16))) :=
    lanes_inb _ (n.val % 16) (5 + n.val / 16) hgr hch (pay7_toNat n)
  rw [wp_assume_of _ _ _ _ c6]
  have h0 := sigDone_step (a := a) (pc := pc) (b := I) hn (k0_pay7 (BitVec.ofNat 32 (5 + n.val / 16)) (BitVec.ofNat 32 (n.val % 16))) _
    (lanes_inb _ (n.val % 16) (5 + n.val / 16) hgr hch (pay7_toNat n)) (pay7_toNat n)
    (fun l => (pay8_at _ l).trans (congrArg _ (load_at I _ (5 + n.val / 16) (16 * (n.val % 16)) (off7_eq n) (k0_off7_inb n) hch l (by omega)))) hf
  iapply (wp_scatter d L _) $$ Hr; iintro Hr
  sl_step
  iexists _; isplitr; · ipureintro; exact h0
  isplitl [Hs]; · iexact Hs
  iexact Hr

end Cert.Proof.KernelIdeal

end
-- ==== Proof.KernelIdeal.Tile.lean ====
/-
  One tile's task: 72 trips, each fetching a chunk's cells, building the chunk's output in scratch and copying it to its place in
  the flat output. After trip `k` the tile's part of the output holds the wanted elements of its first `k + 1` chunks.
-/
module

public import proofs.«01_k».proof.Proof.KernelIdeal.Trips

@[expose] public section

set_option maxRecDepth 16384

noncomputable section

namespace Cert.Proof.KernelIdeal

open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Value

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S144x86x4096 EltTy.f32)
local notation "oV" => (Memref.whole Cert.KernelIdeal.main_v1_scv : Memref Cert.KernelIdeal.sig Kind.scVector Space.hbm Cert.KernelIdeal.S50724864 EltTy.f32)
local notation "sV" => (Memref.whole Cert.KernelIdeal.cc0_scratch0 : Memref Cert.KernelIdeal.sig Kind.scVector Space.vmem Cert.KernelIdeal.S86x256 EltTy.f32)
local notation "rV" => (Memref.whole Cert.KernelIdeal.cc0_scratch1 : Memref Cert.KernelIdeal.sig Kind.scVector Space.vmem Cert.KernelIdeal.S22016 EltTy.f32)

variable (d : Dev nD) (L : grid0.Coords)

/-! ## The words of a chunk -/

/-- What a trip computes first: the chunk's part, anchor and the anchor's words. -/
theorem k0_part4_closed (k : Fin k0_t1_loop.trips) :
    k0_part4 (F := F) L xV (Memref.isWhole_whole _) oV (Memref.isWhole_whole _) sV (Memref.isWhole_whole _) rV (Memref.isWhole_whole _)
        cc0_scoped0 cc0_scoped1 (tileWord L) 0#32 1#32 k
      = pure ⟨BitVec.ofNat 32 (chunkNo L k), BitVec.ofNat 32 (partNo L k), BitVec.ofNat 32 (anchorNo L k), 6#32, wGroup (BitVec.ofNat 32 (anchorNo L k)),
          wSign (BitVec.ofNat 32 (anchorNo L k)), wSign6, 0#32⟩ := by
  have ht : chunkNo L k < 2304 := chunkNo_lt L k
  have e3 : wFloor16 (wChunk (tileWord L) k) = BitVec.ofNat 32 (chunkNo L k / 16) := by rw [wChunk_eq]; exact wFloor16_eq ⟨_, ht⟩
  have e4 : Scalar.subi (wChunk (tileWord L) k) (Scalar.muli (wFloor16 (wChunk (tileWord L) k)) 16#32) = BitVec.ofNat 32 (partNo L k) := by
    rw [e3, wChunk_eq]; exact wRest_eq ⟨_, ht⟩
  have e5 : wMod18 (wFloor16 (wChunk (tileWord L) k)) = BitVec.ofNat 32 (anchorNo L k) := by
    rw [e3]; exact wMod18_eq ⟨_, by omega⟩
  rw [k0_part4_eq_skeleton, ← e5, ← e4, ← wChunk_eq L k]; rfl

/-- and then the anchor's width, height and angle. -/
theorem k0_part5_closed (k : Fin k0_t1_loop.trips) (v : BitVec 32) :
    k0_part5 (F := F) L xV (Memref.isWhole_whole _) oV (Memref.isWhole_whole _) sV (Memref.isWhole_whole _) rV (Memref.isWhole_whole _)
        cc0_scoped0 cc0_scoped1 k v (BitVec.ofNat 32 (anchorNo L k)) 6#32 (wGroup (BitVec.ofNat 32 (anchorNo L k)))
          (wSign (BitVec.ofNat 32 (anchorNo L k))) wSign6 0#32
      = pure ⟨widthOf (anchorNo L k), heightOf (anchorNo L k), angleOf (anchorNo L k)⟩ := by
  have ha : anchorNo L k < 18 := Nat.mod_lt _ (by decide)
  rw [k0_part5_eq_skeleton]
  unfold k0_part5_skel
  rw [pay16_eq (F := F) ⟨_, ha⟩, pay17_eq (F := F) ⟨_, ha⟩, pay18_eq (F := F) ⟨_, ha⟩]

/-! ## The slices of a chunk -/

/-- The chunk's cells in the launch's input, -/
abbrev xK (k : Fin k0_t1_loop.trips) : Memref sig .scVector .hbm S86x256 .f32 :=
  ((xV).slice (Rect.unit (s := S144x86x4096) (k0_off1 L k) S1x86x256.size (k0_off1_inb L k)) (fun _ => rfl)).squeeze S86x256 squeezes_S1x86x256_S86x256
/-- and its elements in the flat output. -/
abbrev oK (k : Fin k0_t1_loop.trips) : Memref sig .scVector .hbm S22016 .f32 :=
  (oV).slice (Rect.unit (s := S50724864) (k0_off8 L k) S22016.size (k0_off8_inb L k)) (fun _ => rfl)

/-- What the fetch leaves in scratch. -/
def fetched (k : Fin k0_t1_loop.trips) (X : Buf (Elt F) (xLoc d)) : S86x256.Idx → F .f32 := (xK L k).view.read (Elt F) X

/-- Its element `(c, p)` is channel `c` of cell `p` of the chunk. -/
theorem fetched_at (k : Fin k0_t1_loop.trips) (X : Buf (Elt F) (xLoc d)) (c : Fin 86) (p : Fin 256) :
    fetched (F := F) d L k X (ix2 c p)
      = X (ix3 ⟨chunkNo L k / 16, by have := chunkNo_lt L k; omega⟩ c ⟨chunkNo L k % 16 * 256 + p.val, by omega⟩) := by
  have e : (xK L k).view.read (Elt F) X (ix2 c p) = X ((xK L k).view.emb (ix2 c p)) := rfl
  show (xK L k).view.read (Elt F) X (ix2 c p) = _
  rw [e]
  congr 1
  have e1 : (Shape.reshapeEquiv (s := S1x86x256) (s' := S86x256) squeezes_S1x86x256_S86x256.numel_eq) (ix2 c p) = ix3 0 c p :=
    Shape.reshapeEquiv_eq_of_rowMajor _ (by
      rw [Shape.rowMajor_val_three, Shape.rowMajor_val_two]; show (0 * 86 + c.val) * 256 + p.val = c.val * 256 + p.val; omega)
  have e2 : (xK L k).view.emb (ix2 c p) = (Rect.unit (s := S144x86x4096) (k0_off1 L k) S1x86x256.size (k0_off1_inb L k)).emb (ix3 0 c p) := by
    rw [← e1]; rfl
  rw [e2]
  have h1 := off1_eq L k
  funext a
  match a with
  | ⟨0, _⟩ => exact Fin.ext (by show k0_off1 L k 0 + 1 * 0 = _; rw [h1]; rfl)
  | ⟨1, _⟩ => exact Fin.ext (by show k0_off1 L k 1 + 1 * c.val = c.val; rw [h1]; show 0 + 1 * c.val = c.val; omega)
  | ⟨2, _⟩ => exact Fin.ext (by show k0_off1 L k 2 + 1 * p.val = _; rw [h1]; show chunkNo L k % 16 * 256 + 1 * p.val = chunkNo L k % 16 * 256 + p.val; omega)

/-- Where the chunk's elements start. -/
theorem off8_at (k : Fin k0_t1_loop.trips) : k0_off8 L k 0 = chunkNo L k * 22016 := by
  rw [k0_off8_eq]
  show 3170304 * (L 1).val + 1585152 * (L 0).val + 22016 * k.val = ((2 * (L 1).val + (L 0).val) * 72 + k.val) * 22016
  omega

/-- Element `q` of the chunk is element `chunk * 22016 + q` of the flat output. -/
theorem oK_emb (k : Fin k0_t1_loop.trips) (q : S22016.Idx) : ((oK L k).view.emb q 0).val = chunkNo L k * 22016 + (q 0).val := by
  have e : ((oK L k).view.emb q 0).val = k0_off8 L k 0 + 1 * (q 0).val := rfl
  rw [e, off8_at, one_mul]

/-- The chunk's elements are the 22016 from there on. -/
theorem oK_set (k : Fin k0_t1_loop.trips) (j : S50724864.Idx) :
    j ∈ (oK L k).view.set ↔ chunkNo L k * 22016 ≤ (j 0).val ∧ (j 0).val < chunkNo L k * 22016 + 22016 := by
  have e : (oK L k).view.set = (Rect.unit (s := S50724864) (k0_off8 L k) S22016.size (k0_off8_inb L k)).set := by
    show ((View.whole (main_v1_scv : Ref sig .scVector)).slice _).set = _
    rw [View.set_slice]; exact Finset.map_refl
  rw [e, Rect.mem_set_unit]
  constructor
  · intro h
    have h0 := h 0
    rw [off8_at] at h0
    exact h0
  · intro h a
    match a with
    | ⟨0, _⟩ =>
      show k0_off8 L k 0 ≤ (j 0).val ∧ (j 0).val < k0_off8 L k 0 + 22016
      rw [off8_at]; exact h

/-- The chunk's elements are among the tile's. -/
theorem oK_sub (k : Fin k0_t1_loop.trips) : (oK L k).view.set ⊆ region (tileNo L) := by
  intro j hj
  rw [oK_set] at hj
  rw [mem_region]
  have hk : k.val < 72 := trips1 ▸ k.isLt
  unfold chunkNo at hj
  omega

/-- Holding the chunk through the copy's view is holding those elements of the flat output. -/
theorem pts_oK (k : Fin k0_t1_loop.trips) (f : Buf (Elt F) (oLoc d)) :
    ((oK L k).view.loc (V d (cV L) (jV L)) ↦[(oK L k).view.set]{fullShare} f : sProp 𝕄) = oLoc d ↦[(oK L k).view.set]{fullShare} f := rfl

/-- The tile's part of the output with its first `n` chunks there. -/
def partDone (X : Buf (Elt F) (xLoc d)) (f : Buf (Elt F) (oLoc d)) (n : ℕ) : Prop :=
  ∀ j : S50724864.Idx, j ∈ region (tileNo L) → (j 0).val < (tileNo L * 72 + n) * 22016 → f j = flatOut (F := F) X j

/-- The flat output with the chunk copied in. -/
abbrev landed (k : Fin k0_t1_loop.trips) (X : Buf (Elt F) (xLoc d)) (f : Buf (Elt F) (oLoc d)) : Buf (Elt F) (oLoc d) :=
  (oK L k).view.writes (Elt F) f [⟨Rect.whole S22016, chunkOut (F := F) (anchorNo L k) (partNo L k) (fetched d L k X)⟩]

/-- Elsewhere it is as it was. -/
theorem landed_off (k : Fin k0_t1_loop.trips) (X : Buf (Elt F) (xLoc d)) (f : Buf (Elt F) (oLoc d)) (j : S50724864.Idx)
    (hj : j ∉ (oK L k).view.set) : landed (F := F) d L k X f j = f j :=
  View.writes_apply_of_forall_ne _ _ _ fun y e => hj (Finset.mem_map.mpr ⟨y, Finset.mem_univ _, e⟩)

/-- An element of the first `t + 1` chunks that is not of chunk `t` is of the first `t`. -/
theorem chunk_before (x t : ℕ) (hj : x < (t + 1) * 22016) (hm : ¬(t * 22016 ≤ x ∧ x < t * 22016 + 22016)) : x < t * 22016 :=
  Nat.lt_of_not_le fun h => hm ⟨h, (Nat.succ_mul t 22016) ▸ hj⟩

/-- The chunk's copy extends the part that is there by one chunk. -/
theorem partDone_step (k : Fin k0_t1_loop.trips) (X : Buf (Elt F) (xLoc d)) (f : Buf (Elt F) (oLoc d)) (hf : partDone (F := F) d L X f k.val) :
    partDone (F := F) d L X (landed d L k X f) (k.val + 1) := by
  intro j hr hj
  by_cases hm : j ∈ (oK L k).view.set
  · obtain ⟨q, -, rfl⟩ := Finset.mem_map.mp hm
    have hread := View.read_writes_cons_emb (Val := Elt F) (oK L k).view f (Rect.whole S22016)
      (chunkOut (F := F) (anchorNo L k) (partNo L k) (fetched d L k X)) [] q
    have e : landed d L k X f ((oK L k).view.emb q) = chunkOut (F := F) (anchorNo L k) (partNo L k) (fetched d L k X) q := by
      rw [Rect.emb_whole_apply, View.read_apply] at hread
      exact (cast_eq _ _).symm.trans hread
    rw [e]
    exact chunkOut_flat X (fetched d L k X) ⟨chunkNo L k, chunkNo_lt L k⟩ (fun c p => fetched_at d L k X c p) q _ (oK_emb L k q)
  · rw [landed_off d L k X f j hm]
    refine hf j hr ?_
    rw [oK_set] at hm
    have e : tileNo L * 72 + (k.val + 1) = chunkNo L k + 1 := (Nat.add_assoc _ _ _).symm
    rw [e] at hj
    show (j 0).val < chunkNo L k * 22016
    exact chunk_before _ _ hj hm

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

variable (X : Buf (Elt F) (xLoc d)) (O : CellTallies nD τ sig (HIx 1)) (W : Waits sig (HIx 1))

/-- Before trip `k` of a tile: its share of the input, its part of the output with `k` chunks there, both scratch buffers, both
    semaphores at zero. -/
def chunkInv (k : ℕ) (_ : Unit) : sProp 𝕄 :=
  iprop(Transfers.MayWaits (V d (cV L) (jV L)) (default : HIx 1) O
    ∗ ((xV).view.loc (V d (cV L) (jV L)) ↦{Transfers.shareTokN fullShare (tileNo L)} X)
    ∗ (∃ f, ⌜partDone (F := F) d L X f k⌝ ∗ oLoc d ↦[region (tileNo L)]{fullShare} f)
    ∗ (∃ I, sPts d L I) ∗ (∃ r, rPts d L r)
    ∗ semVal (cAcell d (cV L) (jV L)) 0 ∗ semVal (cBcell d (cV L) (jV L)) 0
    ∗ ∃ W', ⌜∀ p ∈ W', p ∈ W ∨ p.2 = none⌝ ∗ owes (V d (cV L) (jV L)) O W')

def boxInv (a pc : ℕ) (I : S86x256.Idx → F .f32) (g : ℕ) (_ : Unit) : sProp 𝕄 :=
  iprop(∃ f, ⌜boxDone (chunkOut (F := F) a pc I) f g 0⌝ ∗ sPts d L I ∗ rPts d L f)

def sigInv (a pc : ℕ) (I : S86x256.Idx → F .f32) (n : ℕ) (_ : Unit) : sProp 𝕄 :=
  iprop(∃ f, ⌜sigDone (chunkOut (F := F) a pc I) f n⌝ ∗ sPts d L I ∗ rPts d L f)

set_option maxHeartbeats 4000000 in
/-- Trip `k` of a tile. -/
theorem chunk_trip (k : Fin k0_t1_loop.trips) :
    chunkInv (F := F) d L X O W k.val ()
      ⊢ wp frame (wpE (defs₀ (F := F)) 𝒱₀ (V d (cV L) (jV L)) none) Set.univ
          (k0_t1_body (F := F) L xV (Memref.isWhole_whole _) oV (Memref.isWhole_whole _) sV (Memref.isWhole_whole _) rV (Memref.isWhole_whole _)
            cc0_scoped0 cc0_scoped1 (tileWord L) lanes k ())
          fun _ => chunkInv (F := F) d L X O W (k.val + 1) () := by
  have hp4 := k0_part4_closed (F := F) L k
  have hp5 := k0_part5_closed (F := F) L k
  unfold k0_t1_body
  simp only [hp4, hp5, Prog.bind_ret, pure_bind]
  unfold chunkInv
  iintro ⟨Hmw, Hx, ⟨%f, %hf, Ho⟩, ⟨%fs, Hs⟩, ⟨%fr, Hr⟩, HsemA, HsemB, %W', %hW', HO⟩
  sl_exec (disch := exact View.amount_pos _ _ (show 0 < S86x256.numel by decide))
  have hI : View.write (Elt F) (sV).view fs (chunk_trip.sl.dma0 d L X k) Finset.univ = fetched (F := F) d L k X := View.write_whole_univ _ _ _
  ihave Hs' := (Entails.of_eq (congrArg (fun I => sPts (F := F) d L I) hI)) $$ Hs
  -- the box loop
  sl_for (boxInv (F := F) d L (anchorNo L k) (partNo L k) (fetched d L k X)) $$ [Hs' Hr]
  case region =>
    intro g _
    unfold boxInv
    iintro ⟨%f2, %hf2, Hs, Hr⟩
    iapply (box_trip (F := F) d L (anchorNo L k) (partNo L k) (Nat.mod_lt _ (by decide)) g (fetched d L k X) f2 hf2) $$ [Hs Hr]
    isplitl [Hs] <;> iassumption
  · unfold boxInv
    iexists fr; isplitr; · ipureintro; exact boxDone_zero _ _
    isplitl [Hs'] <;> iassumption
  iintro %_ HI
  unfold boxInv
  icases HI with ⟨%f2, %hf2, Hs, Hr⟩
  rw [show Scf.trips k0_t2_loop.lb k0_t2_loop.ub k0_t2_loop.st = 16 from trips2] at hf2
  -- the logistic loop
  sl_for (sigInv (F := F) d L (anchorNo L k) (partNo L k) (fetched d L k X)) $$ [Hs Hr]
  case region =>
    intro n _
    unfold sigInv
    iintro ⟨%f3, %hf3, Hs, Hr⟩
    iapply (sig_trip (F := F) d L (anchorNo L k) (partNo L k) n (fetched d L k X) f3 hf3) $$ [Hs Hr]
    isplitl [Hs] <;> iassumption
  · unfold sigInv
    iexists f2; isplitr; · ipureintro; exact sigDone_zero hf2
    isplitl [Hs] <;> iassumption
  iintro %_ HI
  unfold sigInv
  icases HI with ⟨%f3, %hf3, Hs, Hr⟩
  rw [show Scf.trips k0_t3_loop.lb k0_t3_loop.ub k0_t3_loop.st = 1296 from trips3] at hf3
  obtain rfl := sigDone_all hf3
  -- the copy out
  ihave Hoo := (pointsTo_split_subset (q := fullShare) (f := f) (oK_sub L k)).1 $$ Ho
  icases Hoo with ⟨Ho, Hor⟩
  ihave Ho' := (Entails.of_eq (pts_oK (F := F) d L k f).symm) $$ Ho
  sl_exec (disch := exact View.amount_pos _ _ (show 0 < S22016.numel by decide))
  have hL : (oK L k).view.writes (Elt F) f [⟨Rect.whole S22016, chunk_trip.sl.dma0_1 d L X k⟩] = landed (F := F) d L k X f := rfl
  ihave Ho := (Entails.of_eq (congrArg (fun g : Buf (Elt F) (oLoc d) => (oLoc d ↦[(oK L k).view.set]{fullShare} g : sProp 𝕄)) hL)) $$ Ho'
  ihave Hor' := (Entails.of_eq (pointsTo_congr (q := fullShare) (ℓ := oLoc d) (I := region (tileNo L) \ (oK L k).view.set) (f := f)
    (g := landed (F := F) d L k X f) fun j hj => (landed_off d L k X f j (Finset.mem_sdiff.mp hj).2).symm)) $$ Hor
  ihave Hoo := (pointsTo_split_subset (q := fullShare) (f := landed (F := F) d L k X f) (oK_sub L k)).2 $$ [Ho Hor']
  · isplitl [Ho] <;> iassumption
  sl_step
  isplitl [Hmw]; · iexact Hmw
  isplitl [Hx]; · iexact Hx
  isplitl [Hoo]
  · iexists _; isplitr; · ipureintro; exact partDone_step (F := F) d L k X f hf
    iexact Hoo
  isplitl [Hs]; · iexists _; iexact Hs
  isplitl [Hr]; · iexists _; iexact Hr
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The task -/

/-- With no chunk done nothing is claimed, -/
theorem partDone_zero (f : Buf (Elt F) (oLoc d)) : partDone (F := F) d L X f 0 := by
  intro j hr hj
  rw [mem_region] at hr
  exfalso
  have e : (tileNo L * 72 + 0) * 22016 = tileNo L * 1585152 := by rw [Nat.add_zero, Nat.mul_assoc]
  rw [e] at hj
  have h1 : (j 0).val / 1585152 < tileNo L := Nat.div_lt_of_lt_mul (by rw [Nat.mul_comm]; exact hj)
  omega

/-- and with all 72 done the tile's part is as wanted. -/
theorem partDone_all (f : Buf (Elt F) (oLoc d)) (hf : partDone (F := F) d L X f 72) (j : S50724864.Idx) (hj : j ∈ region (tileNo L)) :
    f j = flatOut (F := F) X j := by
  refine hf j hj ?_
  rw [mem_region] at hj
  have e : (tileNo L * 72 + 72) * 22016 = (tileNo L + 1) * 1585152 := by
    rw [show tileNo L * 72 + 72 = (tileNo L + 1) * 72 from (Nat.succ_mul _ _).symm, Nat.mul_assoc]
  rw [e, ← hj]
  exact (Nat.div_lt_iff_lt_mul (by decide)).mp (Nat.lt_succ_self _)

omit [FloatOps F] in
/-- The two transfer semaphores are among the subcore's own. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The two scratch buffers are among the subcore's own. -/
theorem ownBufs_V :
    (ownBufs (V d (cV L) (jV L)) : sProp 𝕄)
      = iprop((∃ f, sPts (F := F) d L f) ∗ (∃ f, rPts (F := F) d L f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- A tile's task: from its share of the input and its part of the output at any contents, its part at the wanted elements. -/
theorem tile_body (hF : (K (F := F)).Facts) (X : (d : Dev nD) → Buf (Elt F) (xLoc d)) (hO : ∀ g, O g none = 0) (f₀ : Buf (Elt F) (oLoc d)) :
    iprop(levAts (K (F := F)).L (K (F := F)).lev ∗ emp
        ∗ (xPts X d (tileNo L) ∗ oPts d (tileNo L) f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L xV (Memref.isWhole_whole _) oV (Memref.isWhole_whole _) sV (Memref.isWhole_whole _) rV (Memref.isWhole_whole _)
            cc0_scoped0 cc0_scoped1)
          fun _ => iprop(oPts d (tileNo L) (want X d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  dsimp only
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨Hs, Hr, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (chunkInv (F := F) d L (X d) O W) $$ [Hmw Hx Ho Hs Hr HsemA HsemB HO]
  case region =>
    intro k _
    exact chunk_trip (F := F) d L (X d) O W k
  · unfold chunkInv
    isplitl [Hmw]; · iexact Hmw
    isplitl [Hx]; · iexact Hx
    isplitl [Ho]
    · iexists f₀; isplitr; · ipureintro; exact partDone_zero (F := F) d L (X d) f₀
      iexact Ho
    isplitl [Hs]; · iexact Hs
    isplitl [Hr]; · iexact Hr
    isplitl [HsemA]; · iexact HsemA
    isplitl [HsemB]; · iexact HsemB
    iexists W; isplitr
    · ipureintro; exact fun p hp => .inl hp
    · iexact HO
  iintro %_ HI
  unfold chunkInv
  icases HI with ⟨-, -, ⟨%f, %hf, Ho⟩, Hs, Hr, HsemA, HsemB, HO⟩
  rw [show Scf.trips k0_t1_loop.lb k0_t1_loop.ub k0_t1_loop.st = 72 from trips1] at hf
  ihave Ho' := (Entails.of_eq (pointsTo_congr (q := fullShare) (ℓ := oLoc d) (I := region (tileNo L)) (f := f)
    (g := want X d) fun j hj => partDone_all (F := F) d L (X d) f hf j hj)) $$ Ho
  sl_exec
  sl_step
  isplitl [Ho']; · iexact Ho'
  isplitl [Hs Hr Hbufs]
  · isplitl [Hs]; · iexact Hs
    isplitl [Hr]; · iexact Hr
    iexact Hbufs
  isplitl [HsemA HsemB Hsems]
  · isplitl [HsemA]; · iexact HsemA
    isplitl [HsemB]; · iexact HsemB
    iexact Hsems
  iexact HO

end Cert.Proof.KernelIdeal

end
-- ==== Proof.KernelIdeal.Run.lean ====
/-
  The whole program: the reshape of the argument, the launch, the reshape of the flat output. Every device ends with its argument
  unchanged and its result the wanted elements, and every semaphore reads zero.
-/
module

public import proofs.«01_k».proof.Proof.KernelIdeal.Tile

@[expose] public section

set_option maxRecDepth 16384

noncomputable section

namespace Cert.Proof.KernelIdeal

open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Cert.Proof.Value

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S144x86x4096 EltTy.f32)
local notation "oV" => (Memref.whole Cert.KernelIdeal.main_v1_scv : Memref Cert.KernelIdeal.sig Kind.scVector Space.hbm Cert.KernelIdeal.S50724864 EltTy.f32)
local notation "sV" => (Memref.whole Cert.KernelIdeal.cc0_scratch0 : Memref Cert.KernelIdeal.sig Kind.scVector Space.vmem Cert.KernelIdeal.S86x256 EltTy.f32)
local notation "rV" => (Memref.whole Cert.KernelIdeal.cc0_scratch1 : Memref Cert.KernelIdeal.sig Kind.scVector Space.vmem Cert.KernelIdeal.S22016 EltTy.f32)

/-! ## A tile's obligation -/

/-- The grid coordinates of tile `(c, s)`. -/
def tileCoords (c : Fin (grid0.bound 0)) (s : Fin (grid0.bound 1)) : grid0.Coords :=
  fun | 0 => c | 1 => s | ⟨_ + 2, h⟩ => absurd h (Nat.not_lt.2 (Nat.le_add_left _ _))

/-- What a tile runs is the body at its coordinates. -/
theorem defs₀_tile (c : Fin τ.nSC) (s : Fin τ.nSub) :
    defs₀ (F := F) (.scVector c s) 0 ()
      = SparseCore.onTile hcore0 hsub0 (fun c s => cc0__sc_body (F := F) (tileCoords c s)
          xV (Memref.isWhole_whole _) oV (Memref.isWhole_whole _) sV (Memref.isWhole_whole _) rV (Memref.isWhole_whole _) cc0_scoped0 cc0_scoped1) ⟨⟩ c s := rfl

variable (X : (d : Dev nD) → Buf (Elt F) (xLoc d)) (m : (ℓ : Loc nD τ sig) → Buf (Elt F) ℓ)

/-- A wait list that grew by nothing of this call grew by what the call allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets its obligation: from its input share and output part to its part at the wanted elements. -/
theorem tileObl (hF : (K (F := F)).Facts) : (K (F := F)).TileObl (D (F := F)) 𝒱 (P X m) v₀ 0 := by
  intro d c i O W hO _ _
  simp only [show (P X m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (tileCoords ⟨_, hci.1⟩ ⟨_, hci.2⟩) O W hF X hO (m (oLoc d))).trans (wp_mono frame _ _ fun _ => waits_weaken)

/-! ## The input's shares and the output's parts, tile by tile -/

/-- The tiles, two by sixteen, in one row of thirty-two. -/
def tileEquiv : Fin 2 × Fin 16 ≃ Fin 32 := (Equiv.prodComm _ _).trans finProdFinEquiv

omit [FloatOps F] in
/-- A tile's place in the row is the number that the body computes. -/
theorem tileEquiv_val (p : Fin 2 × Fin 16) : (tileEquiv p).val = tileOf p.1.val p.2.val := Nat.add_comm _ _

omit [FloatOps F] in
/-- The whole input gives every tile its share. -/
theorem xPts_tiles (d : Dev nD) (f : Buf (Elt F) (xLoc d)) :
    (xLoc d ↦{fullShare} f : sProp 𝕄)
      ⊢ bigSep Finset.univ fun c : Fin 2 => bigSep Finset.univ fun s : Fin 16 => xLoc d ↦{Transfers.shareTokN fullShare (tileOf c.val s.val)} f := by
  refine (Transfers.pointsTo_toks (ℓ := xLoc d) (S := Finset.univ) (f := f) fullShare 32).1.trans ?_
  rw [bigSep_univ_equiv tileEquiv, bigSep_univ_prod]
  refine sep_elim_right.trans (Entails.of_eq ?_)
  refine bigSep_congr fun c _ => bigSep_congr fun s _ => ?_
  show (xLoc d ↦{Transfers.shareTokN fullShare (tileEquiv (c, s)).val} f : sProp 𝕄) = _
  rw [tileEquiv_val]

omit [FloatOps F] in
/-- The whole output is every tile's part. -/
theorem oPts_tiles (d : Dev nD) (f : Buf (Elt F) (oLoc d)) :
    (oLoc d ↦{fullShare} f : sProp 𝕄)
      = bigSep Finset.univ fun c : Fin 2 => bigSep Finset.univ fun s : Fin 16 => oPts (F := F) d (tileOf c.val s.val) f := by
  have hd : ∀ p ∈ (Finset.univ : Finset (Fin 2 × Fin 16)), ∀ p' ∈ (Finset.univ : Finset (Fin 2 × Fin 16)), p ≠ p' →
      Disjoint (region (tileOf p.1.val p.2.val)) (region (tileOf p'.1.val p'.2.val)) := by
    intro p _ p' _ hne
    refine region_disjoint _ _ fun e => hne (tileEquiv.injective (Fin.ext ?_))
    rw [tileEquiv_val, tileEquiv_val, e]
  refine Eq.trans ?_ (bigSep_univ_prod (fun p : Fin 2 × Fin 16 => (oLoc d ↦[region (tileOf p.1.val p.2.val)]{fullShare} f : sProp 𝕄)))
  rw [← pointsTo_biUnion Finset.univ (ℓ := oLoc d) (fun p : Fin 2 × Fin 16 => region (tileOf p.1.val p.2.val)) hd, region_cover]
  try rfl

/-- What the call takes for the two cores, -/
theorem st0_eq (d : Dev nD) : (bigSep Finset.univ fun c : Fin ((K (F := F)).nCore 0) => (P X m).st 0 d c)
    = iprop((bigSep Finset.univ fun c : Fin 2 => bigSep Finset.univ fun s : Fin 16 => xPts X d (tileOf c.val s.val))
        ∗ bigSep Finset.univ fun c : Fin 2 => bigSep Finset.univ fun s : Fin 16 => oPts (F := F) d (tileOf c.val s.val) (m (oLoc d))) := by
  rw [← bigSep_sep']
  refine bigSep_congr fun c _ => ?_
  rw [← bigSep_sep']
  rfl

/-- and what it hands back. -/
theorem dn0_eq (d : Dev nD) : (bigSep Finset.univ fun c : Fin ((K (F := F)).nCore 0) => (P X m).dn 0 d c) = (oLoc d ↦{fullShare} want X d : sProp 𝕄) := by
  rw [oPts_tiles]; rfl

/-- A core hands out what it was handed and takes back what it brings back. -/
theorem vecSplit : (K (F := F)).VecSplit' (P X m) 0 := by
  intro d c
  show (bigSep Finset.univ fun i : Fin ((K (F := F)).nSub 0) => iprop(xPts X d (tileOf c.val i.val) ∗ oPts d (tileOf c.val i.val) (m (oLoc d))))
    ⊢ |={Set.univ}=> iprop((bigSep Finset.univ fun i : Fin ((K (F := F)).nSub 0) => iprop(xPts X d (tileOf c.val i.val) ∗ oPts d (tileOf c.val i.val) (m (oLoc d))))
      ∗ ((bigSep Finset.univ fun i : Fin ((K (F := F)).nSub 0) => oPts d (tileOf c.val i.val) (want X d))
          -∗ (bigSep Finset.univ fun i : Fin ((K (F := F)).nSub 0) => oPts d (tileOf c.val i.val) (want X d))))
  iintro H; imodintro
  isplitl [H]; · iexact H
  iintro H; iexact H

/-! ## The launch element of the ghost state -/

def u₀ : UU := (initOf (K (F := F)).hsCells (K (F := F)).hsToks, 1)

omit [FloatOps F] in
/-- Nothing, however many times, is nothing. -/
theorem bigSep_nothing {I : Type} (s : Finset I) : (bigSep s fun _ => iprop(emp)) = (iprop(emp) : sProp 𝕄) := bigSep_emp_const s

/-- The launch element gives the handshakes their cells and asks for nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) X m).x q thr) = bigSep Finset.univ fun _ => iprop(emp) from
    bigSep_congr fun _ _ => bigSep_univ_of_subsingleton (0 : Fin 1), bigSep_nothing]
  iempintro

/-! ## The program on the TensorCore -/

abbrev ra : DevRef τ sig := Proc.devRef .tc (main_arg0 : Ref sig .tc)
abbrev rx : DevRef τ sig := Proc.devRef .tc (main_v0 : Ref sig .tc)
abbrev ro : DevRef τ sig := Proc.devRef .tc (main_v1 : Ref sig .tc)
abbrev rr : DevRef τ sig := Proc.devRef .tc (main_v2 : Ref sig .tc)
/-- The reshape before the call, -/
abbrev opIn : HloOp τ sig (Elt F) := StableHlo.reshape main_arg0 main_v0 (rfl : (.f32 : EltTy) = .f32) shapeCasts_S8x1548x64x64_S144x86x4096
/-- and the one after it. -/
abbrev opOut : HloOp τ sig (Elt F) := StableHlo.reshape main_v1 main_v2 (rfl : (.f32 : EltTy) = .f32) shapeCasts_S50724864_S8x73728x86

/-- The program's arrays. -/
abbrev S4 : Finset (DevRef τ sig) := {ra, rx, ro, rr}

omit [FloatOps F] in
/-- Holding the four arrays, one by one. -/
theorem held_S4 (d : Dev nD) (W : Valuation τ sig (Elt F)) :
    (held (T d) S4 W : sProp 𝕄) = iprop((aLoc d ↦{fullShare} W ra) ∗ (xLoc d ↦{fullShare} W rx) ∗ (oLoc d ↦{fullShare} W ro) ∗ rLoc d ↦{fullShare} W rr) := by
  unfold held S4
  rw [SparseCore.bigSep_insert' (by decide), SparseCore.bigSep_insert' (by decide), SparseCore.bigSep_insert' (by decide), bigSep_singleton]

/-- The two of them that the last reshape touches. -/
abbrev S2 : Finset (DevRef τ sig) := {ro, rr}

omit [FloatOps F] in
/-- Holding the flat output and the result, one by one. -/
theorem held_S2 (d : Dev nD) (W : Valuation τ sig (Elt F)) :
    (held (T d) S2 W : sProp 𝕄) = iprop((oLoc d ↦{fullShare} W ro) ∗ rLoc d ↦{fullShare} W rr) := by
  unfold held S2
  rw [SparseCore.bigSep_insert' (by decide), bigSep_singleton]

omit [FloatOps F] in
/-- The arrays a device starts with are the four. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch, -/
def W0 (d : Dev nD) : Valuation τ sig (Elt F) := fun b => m (d, b)

/-- the call's input: the argument read as slabs of channels of cells, -/
def input (d : Dev nD) : Buf (Elt F) (xLoc d) := shapeCast S144x86x4096 (m (aLoc d)) shapeCasts_S8x1548x64x64_S144x86x4096

/-- the arrays after the call, -/
def W1 (d : Dev nD) : Valuation τ sig (Elt F) := Function.update ((opIn (F := F)).result (W0 m d)) ro (want (input m) d)

/-- and the program's result. -/
def result (d : Dev nD) : Buf (Elt F) (rLoc d) := shapeCast S8x73728x86 (want (input m) d) shapeCasts_S50724864_S8x73728x86

omit [FloatOps F] in
/-- At the launch the four arrays are held at what the memory has. -/
theorem unscoped_held (d : Dev nD) : (unscopedBufs d (fun b => m ((SparseCore.T d).loc b)) : sProp 𝕄) = held (T d) S4 (W0 m d) := by
  rw [unscopedBufs_eq, held_S4]; rfl

omit [FloatOps F] in
/-- The first reshape leaves the call its input, -/
theorem in_x (d : Dev nD) : (opIn (F := F)).result (W0 m d) rx = input m d :=
  (StableHlo.reshape_result main_arg0 main_v0 _ _ _ _ (W0 m d)).trans rfl
omit [FloatOps F] in
/-- and every other array as it was. -/
theorem in_ne (d : Dev nD) (b : DevRef τ sig) (h : b ∉ ({rx} : Finset (DevRef τ sig))) : (opIn (F := F)).result (W0 m d) b = m (d, b) :=
  (opIn (F := F)).result_of_not_mem (W0 m d) (b := b) h

/-- After the call the flat output holds the wanted elements, -/
theorem W1_o (d : Dev nD) : W1 m d ro = want (input m) d := Function.update_self _ _ _
/-- and every other array what it held before. -/
theorem W1_ne (d : Dev nD) (b : DevRef τ sig) (h : b ≠ ro) : W1 m d b = (opIn (F := F)).result (W0 m d) b := Function.update_of_ne h _ _

/-- The last reshape leaves the result. -/
theorem out_r (d : Dev nD) : (opOut (F := F)).result (W1 m d) rr = result m d := by
  refine (StableHlo.reshape_result main_v1 main_v2 _ _ _ _ (W1 m d)).trans ?_
  unfold result
  rw [← W1_o m d]
  rfl

omit [FloatOps F] in
/-- The first reshape touches the four arrays only, -/
theorem opIn_bufs : (opIn (F := F)).bufs ⊆ S4 := show ({ra, rx} : Finset (DevRef τ sig)) ⊆ S4 by decide
omit [FloatOps F] in
/-- and the last one the flat output and the result only. -/
theorem opOut_bufs : (opOut (F := F)).bufs ⊆ S2 := show ({ro, rr} : Finset (DevRef τ sig)) ⊆ S2 by decide

/-- What the program leaves a device: the argument as it was, and the result. -/
abbrev FIN (d : Dev nD) : sProp 𝕄 := iprop((aLoc d ↦{fullShare} m (aLoc d)) ∗ rLoc d ↦{fullShare} result m d)

variable (ρ : Dev nD → PrngReg)

set_option maxHeartbeats 1000000 in
/-- The program on one device: the reshape, the call from the reshaped input and the output, the reshape of what came back. -/
theorem hmain (κ : GSem nD τ sig → ℕ) (d : Dev nD) :
    iprop((K (F := F)).ctx EH (P (input m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) opIn_bufs (V := W0 m d)) $$ [Hb Hheld]
  · isplitl [Hb]; · iexact Hb
    iexact Hheld
  iintro ⟨Hb, Hheld⟩
  ihave Hh := (Entails.of_eq (held_S4 (F := F) d _)) $$ Hheld
  icases Hh with ⟨Ha, Hx, Ho, Hr⟩
  ihave Hx := (Entails.of_eq (congrArg (fun f => (xLoc d ↦{fullShare} f : sProp 𝕄)) (in_x m d))) $$ Hx
  ihave Ho := (Entails.of_eq (congrArg (fun f => (oLoc d ↦{fullShare} f : sProp 𝕄)) (in_ne m d ro (by decide)))) $$ Ho
  ihave Hxs := (xPts_tiles d (input m d)) $$ Hx
  ihave Hos := (Entails.of_eq (oPts_tiles d (m (oLoc d)))) $$ Ho
  rw [wp_ret]; imodintro
  iapply ((K (F := F)).wp_run (D (F := F)) 𝒱 (EH := EH) (P := P (input m) m) κ d 0) $$ [Hst Hxs Hos Ha Hr Hb Hts]
  isplitr; · iexact Hctx
  isplitl [Hst]; · iexact Hst
  isplitl [Hxs Hos]
  · rw [st0_eq]
    isplitl [Hxs]; · iexact Hxs
    iexact Hos
  iintro ⟨Hst, Hdn⟩
  ihave Ho := (Entails.of_eq (dn0_eq (input m) m d)) $$ Hdn
  ihave Ha := (Entails.of_eq (congrArg (fun f => (aLoc d ↦{fullShare} f : sProp 𝕄)) (in_ne m d ra (by decide)))) $$ Ha
  iapply (wp_hlo_within 𝒱 (SparseCore.T d) none Set.univ (op := opOut) (S := S2) opOut_bufs (V := W1 m d)) $$ [Hb Ho Hr]
  · isplitl [Hb]; · iexact Hb
    rw [held_S2, W1_o, W1_ne m d rr (by decide)]
    isplitl [Ho]; · iexact Ho
    iexact Hr
  iintro ⟨Hb, Hheld⟩
  ihave Hh := (Entails.of_eq (held_S2 (F := F) d _)) $$ Hheld
  icases Hh with ⟨-, Hr⟩
  ihave Hr := (Entails.of_eq (congrArg (fun f => (rLoc d ↦{fullShare} f : sProp 𝕄)) (out_r m d))) $$ Hr
  rw [wp_ret]; imodintro; imodintro
  isplitl [Hst]; · iexact Hst
  isplitl [Ha Hr]
  · isplitl [Ha]; · iexact Ha
    iexact Hr
  isplitl [Hb] <;> iassumption

/-- What a device's memory shows at the end. -/
def fq (d : Dev nD) (s' : Phys nD τ sig (Elt F)) : Prop := s'.mem.mem (aLoc d) = m (aLoc d) ∧ s'.mem.mem (rLoc d) = result m d

/-- Holding the argument and the result at the end shows what the memory has there. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := result m d)) $$ [HSI Hr]
  · isplitl [HSI] <;> iassumption
  icases H with %h2
  ipureintro; exact ⟨funext fun i => h1 i (Finset.mem_univ i), funext fun i => h2 i (Finset.mem_univ i)⟩

/-- What every end of the program shows. -/
def QC : PUnit × MemSt nD τ sig (Elt F) → Prop :=
  fun r => (∀ c : Dev nD, r.2.mem (aLoc c) = m (aLoc c) ∧ r.2.mem (rLoc c) = result m c) ∧ r.2.sem = fun _ => 0

/-- The program runs, and ends with its argument unchanged, its result as wanted and its semaphores at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (input m) m) (A := ∅) kFacts v₀
    (fun q hq => match q with | 0 => nomatch hq)
    (fun q _ => match q with | 0 => tileObl (input m) m kFacts)
    (fun q _ => match q with | 0 => SparseCore.Cfg.VecSplit.of_plain (vecSplit (input m) m))
    m ρ main (fun _ => iprop(emp)) (FIN m) (u₀ (F := F)) (sep_elim_left.trans (hu₀ (input m) m)) (hmain m ρ) (fq m) (hfin m) (QC m) (fun _ h hz => ⟨h, hz⟩)

end Cert.Proof.KernelIdeal

end
-- ==== Proof.Claims.lean ====
/-
  The three frame claims: each program runs, leaves its argument as it was and its semaphores at zero.
-/
module

public import proofs.«01_k».proof.Proof.Kernel.Run
public import proofs.«01_k».proof.Proof.KernelIdeal.Run
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts

/-- The kernel's frame, over float words. -/
theorem frame_kernel : Cert.quiescent_Kernel (hKernel := Cert.Kernel.Gen.facts) := fun m ρ _ =>
  (θ_run Cert.Kernel.defs _ _).mono (fun _ h => ⟨fun c => (h.1 c).1, h.2⟩) (Cert.Proof.Kernel.run_main (F := Bits) m ρ)

/-- The kernel's frame, at the extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Cert.Proof.KernelIdeal.run_main (F := Ideal) m ρ)

/-- The reference's frame: it has no semaphores at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Reference.lean ====
/-
  The reference's result, one element at a time: at image `b`, row `r` and channel `k` it is the element that the kernel
  computes of the same input element. The reference's term is cut into the parts a reader of the reference would name.
-/
module

public import proofs.«01_k».proof.Proof.Value
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof.Reference

open Idealize.ShloMosaic Idealize.SL.Sem
open Cert.ReferenceIdeal Cert.ReferenceIdeal.Gen Cert.ReferenceIdeal.Value
open Cert.Proof.Value

/-! ## The reference's parts -/

/-- The input with its channels last: image, anchor, row, column, channel. -/
def chans (x : FVec Ideal S8x1548x64x64 .f32) : FVec Ideal S8x18x64x64x86 .f32 :=
  transpose S8x18x64x64x86 [0, 1, 3, 4, 2] (shapeCast S8x18x86x64x64 x shapeCasts_S8x1548x64x64_S8x18x86x64x64) transposes_S8x18x86x64x64_S8x18x64x64x86_0_1_3_4_2

/-- One channel of it. -/
def chan (x : FVec Ideal S8x1548x64x64 .f32) (c : ℕ) (h : S8x18x64x64x86.Slices ![0, 0, 0, 0, c] S8x18x64x64x1) : FVec Ideal S8x18x64x64 .f32 :=
  shapeCast S8x18x64x64 (extractStridedSlice S8x18x64x64x1 ![0, 0, 0, 0, c] (chans x) h) shapeCasts_S8x18x64x64x1_S8x18x64x64

/-- A number at every cell. -/
def everywhere (w : BitVec 32) : FVec Ideal S8x18x64x64 .f32 := broadcastInDim S8x18x64x64 ![] bcast_S_S8x18x64x64 (constant S_ .f32 w)

/-- The logistic function of every cell. -/
def logistic4 (y : FVec Ideal S8x18x64x64 .f32) : FVec Ideal S8x18x64x64 .f32 :=
  Host.divf (everywhere 0x3F800000#32) (addf (everywhere 0x3F800000#32) (Host.exp (Host.negf y)))

/-- The grid's columns, -/
def columns : FVec Ideal S64x64 .f32 :=
  shapeCast S64x64 (broadcastInDim S64x1x1x64 ![0, 1, 2, 3] bcast_S1x1x1x64_S64x1x1x64_0_1_2_3
    (shapeCast S1x1x1x64 (broadcastInDim S1x64 ![1] bcast_S64_S1x64_1 (sitofp (F := Ideal) .f32 (iotaInDim S64 32 0))) shapeCasts_S1x64_S1x1x1x64)) shapeCasts_S64x1x1x64_S64x64

/-- and a grid at every image and anchor. -/
def gridded (g : FVec Ideal S64x64 .f32) : FVec Ideal S8x18x64x64 .f32 :=
  broadcastInDim S8x18x64x64 ![0, 1, 2, 3] bcast_S1x1x64x64_S8x18x64x64_0_1_2_3 (shapeCast S1x1x64x64 g shapeCasts_S64x64_S1x1x64x64)

/-- A box centre in grid units. -/
def centre4 (y g : FVec Ideal S8x18x64x64 .f32) : FVec Ideal S8x18x64x64 .f32 :=
  addf (subf (mulf (logistic4 y) (everywhere 0x3F866666#32)) (everywhere 0x3CCCCCCD#32)) g

/-- One column of the table of anchors. -/
def anchorCol (c : ℕ) (h : S18x3.Slices ![0, c] S18x1) : FVec Ideal S8x18x64x64 .f32 :=
  broadcastInDim S8x18x64x64 ![0, 1, 2, 3] bcast_S1x18x1x1_S8x18x64x64_0_1_2_3
    (shapeCast S1x18x1x1 (shapeCast S18 (extractStridedSlice S18x1 ![0, c] (fun i => FloatOps.ofBits (F := Ideal) .f32 (lit0 (S18x3.rowMajor i))) h)
      shapeCasts_S18x1_S18) shapeCasts_S18_S1x18x1x1)

/-- A cell's value as a row of one. -/
def asRow (y : FVec Ideal S8x18x64x64 .f32) : FVec Ideal S8x18x64x64x1 .f32 := broadcastInDim S8x18x64x64x1 ![0, 1, 2, 3] bcast_S8x18x64x64_S8x18x64x64x1_0_1_2_3 y

/-- The five box numbers in grid units. -/
def boxes (x : FVec Ideal S8x1548x64x64 .f32) : FVec Ideal S8x18x64x64x5 .f32 :=
  concatenate S8x18x64x64x5 4
    [⟨S8x18x64x64x1, asRow (centre4 (chan x 0 slices_S8x18x64x64x86_S8x18x64x64x1_0_0_0_0_0) (gridded columns))⟩,
     ⟨S8x18x64x64x1, asRow (centre4 (chan x 1 slices_S8x18x64x64x86_S8x18x64x64x1_0_0_0_0_1) (gridded (transpose S64x64 [1, 0] columns transposes_S64x64_S64x64_1_0)))⟩,
     ⟨S8x18x64x64x1, asRow (mulf (Host.exp (chan x 2 slices_S8x18x64x64x86_S8x18x64x64x1_0_0_0_0_2)) (anchorCol 0 slices_S18x3_S18x1_0_0))⟩,
     ⟨S8x18x64x64x1, asRow (mulf (Host.exp (chan x 3 slices_S8x18x64x64x86_S8x18x64x64x1_0_0_0_0_3)) (anchorCol 1 slices_S18x3_S18x1_0_1))⟩,
     ⟨S8x18x64x64x1, asRow (addf (chan x 4 slices_S8x18x64x64x86_S8x18x64x64x1_0_0_0_0_4) (anchorCol 2 slices_S18x3_S18x1_0_2))⟩]
    concatenates_S8x18x64x64x1_S8x18x64x64x1_S8x18x64x64x1_S8x18x64x64x1_S8x18x64x64x1_S8x18x64x64x5_d4

/-- The five box numbers, the first four in units of the image. -/
def scaled (y : FVec Ideal S8x18x64x64x5 .f32) : FVec Ideal S8x18x64x64x5 .f32 :=
  concatenate S8x18x64x64x5 4
    [⟨S8x18x64x64x4, mulf (extractStridedSlice S8x18x64x64x4 ![0, 0, 0, 0, 0] y slices_S8x18x64x64x5_S8x18x64x64x4_0_0_0_0_0)
        (broadcastInDim S8x18x64x64x4 ![] bcast_S_S8x18x64x64x4 (constant S_ .f32 0x41000000#32))⟩,
     ⟨S8x18x64x64x1, extractStridedSlice S8x18x64x64x1 ![0, 0, 0, 0, 4] y slices_S8x18x64x64x5_S8x18x64x64x1_0_0_0_0_4⟩]
    concatenates_S8x18x64x64x4_S8x18x64x64x1_S8x18x64x64x5_d4

/-- The logistic values of the classes. -/
def classes (x : FVec Ideal S8x1548x64x64 .f32) : FVec Ideal S8x18x64x64x80 .f32 :=
  Host.divf (broadcastInDim S8x18x64x64x80 ![] bcast_S_S8x18x64x64x80 (constant S_ .f32 0x3F800000#32))
    (addf (broadcastInDim S8x18x64x64x80 ![] bcast_S_S8x18x64x64x80 (constant S_ .f32 0x3F800000#32))
      (Host.exp (Host.negf (extractStridedSlice S8x18x64x64x80 ![0, 0, 0, 0, 6] (chans x) slices_S8x18x64x64x86_S8x18x64x64x80_0_0_0_0_6))))

/-- The reference's result of an input. -/
def whole (x : FVec Ideal S8x1548x64x64 .f32) : FVec Ideal S8x73728x86 .f32 :=
  concatenate S8x73728x86 2
    [⟨S8x73728x5, shapeCast S8x73728x5 (scaled (boxes x)) shapeCasts_S8x18x64x64x5_S8x73728x5⟩,
     ⟨S8x73728x1, shapeCast S8x73728x1 (logistic4 (chan x 5 slices_S8x18x64x64x86_S8x18x64x64x1_0_0_0_0_5)) shapeCasts_S8x18x64x64_S8x73728x1⟩,
     ⟨S8x73728x80, shapeCast S8x73728x80 (classes x) shapeCasts_S8x18x64x64x80_S8x73728x80⟩]
    concatenates_S8x73728x5_S8x73728x1_S8x73728x80_S8x73728x86_d2

/-- The reference's run ends at `whole` of its argument. -/
theorem res_eq (m : (ℓ : Loc nD τ sig) → Buf (Elt Ideal) ℓ) (c : Dev nD) :
    res_main_v95 (F := Ideal) m c = whole (m ((c.tc : Thread nD τ).loc main_arg0)) := rfl

/-! ## Each part at an index -/

/-- The input with its channels last, at an index, -/
theorem chans_at (x : FVec Ideal S8x1548x64x64 .f32) (b : Fin 8) (a : Fin 18) (g h : Fin 64) (k : Fin 86) :
    chans x (ix5 b a g h k) = x (ix4 b ⟨a.val * 86 + k.val, by omega⟩ g h) := by
  pointwise [chans]

/-- and one channel of it. -/
theorem chan_at (x : FVec Ideal S8x1548x64x64 .f32) (c : Fin 86) (hs : S8x18x64x64x86.Slices ![0, 0, 0, 0, c.val] S8x18x64x64x1) (b : Fin 8) (a : Fin 18) (g h : Fin 64) :
    chan x c.val hs (ix4 b a g h) = x (ix4 b ⟨a.val * 86 + c.val, by omega⟩ g h) := by
  pointwise [chan]
  exact chans_at x b a g h c

/-- The logistic function's two spellings agree: `-y` is `0 - y`. -/
theorem logistic_eq (y : EReal) : Ideal.div 1 (1 + Ideal.exp (-y)) = sigm (F := Ideal) y := by
  pointwise [sigm]
  rw [sub_eq_add_neg, zero_add]

/-- The logistic function of the cells, at a cell. -/
theorem logistic4_at (y : FVec Ideal S8x18x64x64 .f32) (i : S8x18x64x64.Idx) : logistic4 y i = sigm (F := Ideal) (y i) := by
  rw [← logistic_eq]
  pointwise [logistic4, everywhere]

/-- The grid at row `g` and column `h` is `h`, -/
theorem columns_at (g h : Fin 64) : columns (ix2 g h) = FloatOps.sitofp (F := Ideal) .f32 (BitVec.ofNat 32 h.val) := by
  pointwise [columns]

/-- the same at every image and anchor. -/
theorem gridded_at (y : FVec Ideal S64x64 .f32) (b : Fin 8) (a : Fin 18) (g h : Fin 64) : gridded y (ix4 b a g h) = y (ix2 g h) := by
  pointwise [gridded]

/-- A column of the anchors' table, at an anchor. -/
theorem anchorCol_at (c : Fin 3) (hs : S18x3.Slices ![0, c.val] S18x1) (b : Fin 8) (a : Fin 18) (g h : Fin 64) :
    anchorCol c.val hs (ix4 b a g h) = FloatOps.ofBits (F := Ideal) .f32 (lit0 ⟨a.val * 3 + c.val, by omega⟩) := by
  pointwise [anchorCol]
  refine congrArg (fun n => Ideal.ofBits .f32 (lit0 n)) (Fin.ext ?_)
  exact Shape.rowMajor_val_two _

/-- An array of cells with a last axis of length one, at a cell. -/
theorem asRow_at (y : FVec Ideal S8x18x64x64 .f32) (b : Fin 8) (a : Fin 18) (g h : Fin 64) : asRow y (ix5 b a g h 0) = y (ix4 b a g h) := by
  pointwise [asRow]

/-- A box centre in grid units, at a cell. -/
theorem centre4_at (y g : FVec Ideal S8x18x64x64 .f32) (i : S8x18x64x64.Idx) :
    centre4 y g i = FloatOps.addf (F := Ideal) (FloatOps.subf (FloatOps.mulf (sigm (F := Ideal) (y i)) (FloatOps.ofBits .f32 0x3F866666#32)) (FloatOps.ofBits .f32 0x3CCCCCCD#32)) (g i) := by
  rw [← logistic4_at]
  pointwise [centre4, everywhere]

/-- The five box numbers, in grid units, of cell `(g, h)` of anchor `a`, made of its five input elements. -/
def boxVal (a g h k : ℕ) (y : EReal) : EReal :=
  if k = 0 then (sigm (F := Ideal) y * Ideal.ofBits .f32 0x3F866666#32 - Ideal.ofBits .f32 0x3CCCCCCD#32) + FloatOps.sitofp (F := Ideal) .f32 (BitVec.ofNat 32 h)
  else if k = 1 then (sigm (F := Ideal) y * Ideal.ofBits .f32 0x3F866666#32 - Ideal.ofBits .f32 0x3CCCCCCD#32) + FloatOps.sitofp (F := Ideal) .f32 (BitVec.ofNat 32 g)
  else if h : a * 3 + k - 2 < 54 then
    if k = 4 then y + Ideal.ofBits .f32 (lit0 ⟨a * 3 + k - 2, h⟩) else Ideal.exp y * Ideal.ofBits .f32 (lit0 ⟨a * 3 + k - 2, h⟩)
  else 0

/-- The five box numbers at an index. -/
theorem boxes_at (x : FVec Ideal S8x1548x64x64 .f32) (b : Fin 8) (a : Fin 18) (g h : Fin 64) (k : Fin 5) :
    boxes x (ix5 b a g h k) = boxVal a.val g.val h.val k.val (x (ix4 b ⟨a.val * 86 + k.val, by omega⟩ g h)) := by
  have e0 := chan_at x 0 slices_S8x18x64x64x86_S8x18x64x64x1_0_0_0_0_0 b a g h
  have e1 := chan_at x 1 slices_S8x18x64x64x86_S8x18x64x64x1_0_0_0_0_1 b a g h
  have e2 := chan_at x 2 slices_S8x18x64x64x86_S8x18x64x64x1_0_0_0_0_2 b a g h
  have e3 := chan_at x 3 slices_S8x18x64x64x86_S8x18x64x64x1_0_0_0_0_3 b a g h
  have e4 := chan_at x 4 slices_S8x18x64x64x86_S8x18x64x64x1_0_0_0_0_4 b a g h
  have c2 := anchorCol_at 0 slices_S18x3_S18x1_0_0 b a g h
  have c3 := anchorCol_at 1 slices_S18x3_S18x1_0_1 b a g h
  have c4 := anchorCol_at 2 slices_S18x3_S18x1_0_2 b a g h
  pointwise [boxes]
  match k with
  | ⟨0, _⟩ =>
    rw [dif_pos (by simp)]
    refine (asRow_at _ b a g h).trans ((centre4_at _ _ _).trans ?_)
    rw [gridded_at, columns_at]
    rw [show chan x 0 slices_S8x18x64x64x86_S8x18x64x64x1_0_0_0_0_0 (ix4 b a g h) = _ from e0]
    rfl
  | ⟨1, _⟩ =>
    rw [dif_neg (by simp), dif_pos (by simp)]
    refine (asRow_at _ b a g h).trans ((centre4_at _ _ _).trans ?_)
    rw [gridded_at, show transpose S64x64 [1, 0] columns transposes_S64x64_S64x64_1_0 (ix2 g h) = columns (ix2 h g) by pointwise, columns_at]
    rw [show chan x 1 slices_S8x18x64x64x86_S8x18x64x64x1_0_0_0_0_1 (ix4 b a g h) = _ from e1]
    rfl
  | ⟨2, _⟩ =>
    rw [dif_neg (by simp), dif_neg (by simp), dif_pos (by simp)]
    refine (asRow_at _ b a g h).trans ?_
    pointwise
    rw [show chan x 2 slices_S8x18x64x64x86_S8x18x64x64x1_0_0_0_0_2 (ix4 b a g h) = _ from e2, show anchorCol 0 slices_S18x3_S18x1_0_0 (ix4 b a g h) = _ from c2]
    unfold boxVal
    rw [if_neg (by simp), if_neg (by simp), dif_pos (by omega), if_neg (by simp)]; rfl
  | ⟨3, _⟩ =>
    rw [dif_neg (by simp), dif_neg (by simp), dif_neg (by simp), dif_pos (by simp)]
    refine (asRow_at _ b a g h).trans ?_
    pointwise
    rw [show chan x 3 slices_S8x18x64x64x86_S8x18x64x64x1_0_0_0_0_3 (ix4 b a g h) = _ from e3, show anchorCol 1 slices_S18x3_S18x1_0_1 (ix4 b a g h) = _ from c3]
    unfold boxVal
    rw [if_neg (by simp), if_neg (by simp), dif_pos (by omega), if_neg (by simp)]; rfl
  | ⟨4, _⟩ =>
    rw [dif_neg (by simp), dif_neg (by simp), dif_neg (by simp), dif_neg (by simp)]
    refine (asRow_at _ b a g h).trans ?_
    pointwise
    rw [show chan x 4 slices_S8x18x64x64x86_S8x18x64x64x1_0_0_0_0_4 (ix4 b a g h) = _ from e4, show anchorCol 2 slices_S18x3_S18x1_0_2 (ix4 b a g h) = _ from c4]
    unfold boxVal
    rw [if_neg (by simp), if_neg (by simp), dif_pos (by omega), if_pos rfl]; rfl

/-- The scaling: the first four are multiplied by the stride, the angle is not. -/
theorem scaled_at (y : FVec Ideal S8x18x64x64x5 .f32) (b : Fin 8) (a : Fin 18) (g h : Fin 64) (k : Fin 5) :
    scaled y (ix5 b a g h k) = if k.val < 4 then y (ix5 b a g h k) * Ideal.ofBits .f32 0x41000000#32 else y (ix5 b a g h k) := by
  pointwise [scaled]
  by_cases hk : k.val < 4
  · rw [dif_pos hk, if_pos hk]
  · rw [dif_neg hk, if_neg hk]
    exact congrArg (fun n => y (ix5 b a g h n)) (Fin.ext (by show 4 + (k.val - 4) = k.val; omega))

/-- A class score at an index: the logistic value of channel `6 + k`. -/
theorem classes_at (x : FVec Ideal S8x1548x64x64 .f32) (b : Fin 8) (a : Fin 18) (g h : Fin 64) (k : Fin 80) :
    classes x (ix5 b a g h k) = sigm (F := Ideal) (x (ix4 b ⟨a.val * 86 + (6 + k.val), by omega⟩ g h)) := by
  rw [← logistic_eq]
  pointwise [classes]
  rw [chans_at]

/-! ## The constants -/

/-- The word of 8. -/
theorem val_8 : Ideal.ofBits .f32 0x41000000#32 = ((8 : ℝ) : EReal) := by
  simp [Ideal.ofBits, Ideal.ieee, -EReal.coe_mul]; norm_num
/-- The word of 1.5. -/
theorem val_1_5 : Ideal.ofBits .f32 0x3FC00000#32 = ((3 / 2 : ℝ) : EReal) := by
  simp [Ideal.ofBits, Ideal.ieee, -EReal.coe_mul]; norm_num
/-- The word of 2. -/
theorem val_2 : Ideal.ofBits .f32 0x40000000#32 = ((2 : ℝ) : EReal) := by
  simp [Ideal.ofBits, Ideal.ieee, -EReal.coe_mul]; norm_num
/-- The word of 2.375. -/
theorem val_2_375 : Ideal.ofBits .f32 0x40180000#32 = ((19 / 8 : ℝ) : EReal) := by
  simp [Ideal.ofBits, Ideal.ieee, -EReal.coe_mul]; norm_num
/-- The word of 4.5. -/
theorem val_4_5 : Ideal.ofBits .f32 0x40900000#32 = ((9 / 2 : ℝ) : EReal) := by
  simp [Ideal.ofBits, Ideal.ieee, -EReal.coe_mul]; norm_num
/-- The word of 5. -/
theorem val_5 : Ideal.ofBits .f32 0x40A00000#32 = ((5 : ℝ) : EReal) := by
  simp [Ideal.ofBits, Ideal.ieee, -EReal.coe_mul]; norm_num
/-- The word of 3.5. -/
theorem val_3_5 : Ideal.ofBits .f32 0x40600000#32 = ((7 / 2 : ℝ) : EReal) := by
  simp [Ideal.ofBits, Ideal.ieee, -EReal.coe_mul]; norm_num
/-- The word of 12. -/
theorem val_12 : Ideal.ofBits .f32 0x41400000#32 = ((12 : ℝ) : EReal) := by
  simp [Ideal.ofBits, Ideal.ieee, -EReal.coe_mul]; norm_num
/-- The word of 16. -/
theorem val_16 : Ideal.ofBits .f32 0x41800000#32 = ((16 : ℝ) : EReal) := by
  simp [Ideal.ofBits, Ideal.ieee, -EReal.coe_mul]; norm_num
/-- The word of 19. -/
theorem val_19 : Ideal.ofBits .f32 0x41980000#32 = ((19 : ℝ) : EReal) := by
  simp [Ideal.ofBits, Ideal.ieee, -EReal.coe_mul]; norm_num
/-- The word of 36. -/
theorem val_36 : Ideal.ofBits .f32 0x42100000#32 = ((36 : ℝ) : EReal) := by
  simp [Ideal.ofBits, Ideal.ieee, -EReal.coe_mul]; norm_num
/-- The word of 40. -/
theorem val_40 : Ideal.ofBits .f32 0x42200000#32 = ((40 : ℝ) : EReal) := by
  simp [Ideal.ofBits, Ideal.ieee, -EReal.coe_mul]; norm_num
/-- The word of 28. -/
theorem val_28 : Ideal.ofBits .f32 0x41E00000#32 = ((28 : ℝ) : EReal) := by
  simp [Ideal.ofBits, Ideal.ieee, -EReal.coe_mul]; norm_num

/-- An anchor's width in cells times the stride is its width, -/
theorem width_scaled (a : Fin 18) : Ideal.ofBits .f32 (lit0 ⟨a.val * 3 + 2 - 2, by omega⟩) * Ideal.ofBits .f32 0x41000000#32 = widthOf (F := Ideal) a.val := by
  have h1 : Ideal.ofBits .f32 0x3FC00000#32 * Ideal.ofBits .f32 0x41000000#32 = Ideal.ofBits .f32 0x41400000#32 := by
    rw [val_1_5, val_8, val_12, ← EReal.coe_mul]; norm_num
  have h2 : Ideal.ofBits .f32 0x40180000#32 * Ideal.ofBits .f32 0x41000000#32 = Ideal.ofBits .f32 0x41980000#32 := by
    rw [val_2_375, val_8, val_19, ← EReal.coe_mul]; norm_num
  have h3 : Ideal.ofBits .f32 0x40A00000#32 * Ideal.ofBits .f32 0x41000000#32 = Ideal.ofBits .f32 0x42200000#32 := by
    rw [val_5, val_8, val_40, ← EReal.coe_mul]; norm_num
  fin_cases a <;> first | exact h1 | exact h2 | exact h3

/-- the same of its height, -/
theorem height_scaled (a : Fin 18) : Ideal.ofBits .f32 (lit0 ⟨a.val * 3 + 3 - 2, by omega⟩) * Ideal.ofBits .f32 0x41000000#32 = heightOf (F := Ideal) a.val := by
  have h1 : Ideal.ofBits .f32 0x40000000#32 * Ideal.ofBits .f32 0x41000000#32 = Ideal.ofBits .f32 0x41800000#32 := by
    rw [val_2, val_8, val_16, ← EReal.coe_mul]; norm_num
  have h2 : Ideal.ofBits .f32 0x40900000#32 * Ideal.ofBits .f32 0x41000000#32 = Ideal.ofBits .f32 0x42100000#32 := by
    rw [val_4_5, val_8, val_36, ← EReal.coe_mul]; norm_num
  have h3 : Ideal.ofBits .f32 0x40600000#32 * Ideal.ofBits .f32 0x41000000#32 = Ideal.ofBits .f32 0x41E00000#32 := by
    rw [val_3_5, val_8, val_28, ← EReal.coe_mul]; norm_num
  fin_cases a <;> first | exact h1 | exact h2 | exact h3

/-- and the table's angles are the kernel's. -/
theorem angle_same (a : Fin 18) : Ideal.ofBits .f32 (lit0 ⟨a.val * 3 + 4 - 2, by omega⟩) = angleOf (F := Ideal) a.val := by
  fin_cases a <;> rfl

/-- A box number, scaled as the reference scales it, is the kernel's number of the cell. -/
theorem box_cell (a : Fin 18) (pos k : ℕ) (y : EReal) (h5 : k < 5) :
    (if k < 4 then boxVal a.val (pos / 64) (pos % 64) k y * Ideal.ofBits .f32 0x41000000#32
      else boxVal a.val (pos / 64) (pos % 64) k y) = cellVal (F := Ideal) a.val pos k y := by
  have w2 := width_scaled a
  have w3 := height_scaled a
  have w4 := angle_same a
  have ha := a.isLt
  interval_cases k
  · rfl
  · rfl
  · unfold boxVal
    rw [if_pos (by simp), if_neg (by simp), if_neg (by simp), dif_pos (by omega), if_neg (by simp), mul_assoc, w2]
    rfl
  · unfold boxVal
    rw [if_pos (by simp), if_neg (by simp), if_neg (by simp), dif_pos (by omega), if_neg (by simp), mul_assoc, w3]
    rfl
  · unfold boxVal
    rw [if_neg (by simp), if_neg (by simp), if_neg (by simp), dif_pos (by omega), if_pos rfl, w4]
    rfl

/-! ## The whole result at an index -/

/-- The reference's element is the kernel's. -/
theorem whole_at (x : FVec Ideal S8x1548x64x64 .f32) (b : Fin 8) (r : Fin 73728) (k : Fin 86) :
    whole x (ix3 b r k)
      = cellVal (F := Ideal) (r.val / 4096) (r.val % 4096) k.val
          (x (ix4 b ⟨r.val / 4096 * 86 + k.val, by omega⟩ ⟨r.val / 64 % 64, by omega⟩ ⟨r.val % 64, by omega⟩)) := by
  have ha : r.val / 4096 < 18 := by omega
  pointwise [whole]
  by_cases h5 : k.val < 5
  · rw [dif_pos h5]
    refine (scaled_at _ b ⟨r.val / 4096, ha⟩ ⟨r.val / 64 % 64, by omega⟩ ⟨r.val % 64, by omega⟩ ⟨k.val, h5⟩).trans ?_
    rw [boxes_at]
    have hq : r.val % 4096 % 64 = r.val % 64 := by omega
    have hd : r.val % 4096 / 64 = r.val / 64 % 64 := by omega
    rw [← box_cell ⟨r.val / 4096, ha⟩ (r.val % 4096) k.val _ h5, hq, hd]
  · rw [dif_neg h5, cellVal_ge _ _ _ _ (by omega)]
    by_cases h6 : k.val - 5 < 1
    · rw [dif_pos h6, logistic4_at]
      refine congrArg (sigm (F := Ideal)) ((chan_at x 5 slices_S8x18x64x64x86_S8x18x64x64x1_0_0_0_0_5 b ⟨r.val / 4096, ha⟩ _ _).trans ?_)
      exact congrArg (fun n => x (ix4 b n _ _)) (Fin.ext (by show r.val / 4096 * 86 + 5 = r.val / 4096 * 86 + k.val; omega))
    · rw [dif_neg h6, classes_at]
      refine congrArg (sigm (F := Ideal)) ?_
      exact congrArg (fun n => x (ix4 b n _ _)) (Fin.ext (by show r.val / 4096 * 86 + (6 + (k.val - 5 - 1)) = r.val / 4096 * 86 + k.val; omega))

end Cert.Proof.Reference

end
-- ==== Proof.Equation.lean ====
/-
  The kernel's result, element by element, is the reference's: both are the cell's number of the same input element.
-/
module

public import proofs.«01_k».proof.Proof.Claims
public import proofs.«01_k».proof.Proof.Reference
public import Idealize.ShloMosaic.Lib.Pointwise

@[expose] public section

set_option maxRecDepth 16384

noncomputable section

namespace Cert.Proof

open Idealize.ShloMosaic Idealize.SL.Sem
open Cert.KernelIdeal Cert.KernelIdeal.Gen
open Cert.Proof.Value (cellVal flatOut)

/-- The launch's input, at a slab, channel and cell, is the argument's element there. -/
theorem slab_at (x : FVec Ideal S8x1548x64x64 .f32) (s : Fin 144) (k : Fin 86) (p : Fin 4096) :
    shapeCast S144x86x4096 x shapeCasts_S8x1548x64x64_S144x86x4096 (ix3 s k p)
      = x (ix4 ⟨s.val / 18, by omega⟩ ⟨s.val % 18 * 86 + k.val, by omega⟩ ⟨p.val / 64, by omega⟩ ⟨p.val % 64, by omega⟩) := by
  pointwise

/-- The flat result reshaped, at an image, a row and a channel. -/
theorem flat_at (x : FVec Ideal S144x86x4096 .f32) (b : Fin 8) (r : Fin 73728) (k : Fin 86) :
    shapeCast S8x73728x86 (flatOut (F := Ideal) x) shapeCasts_S50724864_S8x73728x86 (ix3 b r k)
      = cellVal (F := Ideal) (r.val / 4096) (r.val % 4096) k.val (x (ix3 ⟨b.val * 18 + r.val / 4096, by omega⟩ k ⟨r.val % 4096, by omega⟩)) := by
  pointwise
  have e0 : ((ix1 (⟨b.val * 6340608 + r.val * 86 + k.val, by omega⟩ : Fin 50724864)) 0).val = b.val * 6340608 + r.val * 86 + k.val := rfl
  have e1 : (b.val * 6340608 + r.val * 86 + k.val) / 352256 = b.val * 18 + r.val / 4096 := by omega
  have e2 : (b.val * 6340608 + r.val * 86 + k.val) / 86 % 4096 = r.val % 4096 := by omega
  have e3 : (b.val * 6340608 + r.val * 86 + k.val) % 86 = k.val := by omega
  have e4 : (b.val * 18 + r.val / 4096) % 18 = r.val / 4096 := by omega
  unfold flatOut
  congr 1
  · rw [e0, e1, e4]
  · congr 2
    · exact Fin.ext e1
    · exact Fin.ext e3
    · exact Fin.ext e2

/-- The kernel's result of an argument, at an image, a row and a channel. -/
theorem result_at (x : FVec Ideal S8x1548x64x64 .f32) (b : Fin 8) (r : Fin 73728) (k : Fin 86) :
    shapeCast S8x73728x86 (flatOut (F := Ideal) (shapeCast S144x86x4096 x shapeCasts_S8x1548x64x64_S144x86x4096))
        shapeCasts_S50724864_S8x73728x86 (ix3 b r k)
      = cellVal (F := Ideal) (r.val / 4096) (r.val % 4096) k.val
          (x (ix4 b ⟨r.val / 4096 * 86 + k.val, by omega⟩ ⟨r.val / 64 % 64, by omega⟩ ⟨r.val % 64, by omega⟩)) := by
  rw [flat_at, slab_at]
  have e1 : (b.val * 18 + r.val / 4096) / 18 = b.val := by omega
  have e2 : (b.val * 18 + r.val / 4096) % 18 * 86 + k.val = r.val / 4096 * 86 + k.val := by omega
  have e3 : r.val % 4096 / 64 = r.val / 64 % 64 := by omega
  have e4 : r.val % 4096 % 64 = r.val % 64 := by omega
  refine congrArg (fun y => cellVal (F := Ideal) (r.val / 4096) (r.val % 4096) k.val y) ?_
  congr 2
  · exact Fin.ext e1
  · exact Fin.ext e2
  · exact Fin.ext e3
  · exact Fin.ext e4

/-- The kernel's result of an argument is the reference's. -/
theorem result_eq (x : FVec Ideal S8x1548x64x64 .f32) :
    shapeCast S8x73728x86 (flatOut (F := Ideal) (shapeCast S144x86x4096 x shapeCasts_S8x1548x64x64_S144x86x4096))
        shapeCasts_S50724864_S8x73728x86 = Cert.Proof.Reference.whole x := by
  funext i
  rw [eq_ix3 i]
  exact (result_at x _ _ _).trans (Cert.Proof.Reference.whole_at x _ _ _).symm

attribute [local instance] Cert.Kernel.Gen.facts Cert.KernelIdeal.Gen.facts Cert.ReferenceIdeal.Gen.facts

/-- The algebraic claim: from equal arguments the kernel and the reference end with equal results, the arguments unchanged. -/
theorem equal_results : Cert.algebraic_KernelIdeal_ReferenceIdeal (hKernelIdeal := Cert.KernelIdeal.Gen.facts)
    (hReferenceIdeal := Cert.ReferenceIdeal.Gen.facts) := fun m ρ m' ρ' _ hm =>
  ⟨Cert.Proof.KernelIdeal.result (F := Ideal) m,
    (θ_run Cert.KernelIdeal.defs _ _).mono (fun _ h c => ⟨(h.1 c).2, (h.1 c).1⟩) (Cert.Proof.KernelIdeal.run_main (F := Ideal) m ρ),
    (θ_run Cert.ReferenceIdeal.defs _ _).mono (fun r h c => ⟨by
      refine (h c).1.trans ((Cert.Proof.Reference.res_eq m' c).trans ?_)
      rw [hm c]
      exact (result_eq (m (Cert.Proof.KernelIdeal.aLoc c))).symm, (h c).2⟩)
      (Cert.ReferenceIdeal.Value.run (F := Ideal) m' ρ')⟩

end Cert.Proof

end
-- ==== Proof.lean ====
/- The proof of the five claims: the three frames, that the two kernel programs are the same, and that the kernel's result is the
   reference's. The kernel's runs are proved in Proof/Kernel and Proof/KernelIdeal, the reference's elements in
   Proof/Reference, and the equality in Proof/Equation. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Claims
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
